-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_3) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16384x3 : Shape := ⟨3, ![8, 16384, 3]⟩
abbrev S3x8x16384 : Shape := ⟨3, ![3, 8, 16384]⟩
abbrev S1x8x16384 : Shape := ⟨3, ![1, 8, 16384]⟩
abbrev S8x16384 : Shape := ⟨2, ![8, 16384]⟩
abbrev S8x2048 : Shape := ⟨2, ![8, 2048]⟩
abbrev S8x128 : Shape := ⟨2, ![8, 128]⟩
abbrev S8x1 : Shape := ⟨2, ![8, 1]⟩
abbrev S8 : Shape := ⟨1, ![8]⟩
abbrev S8x2048x1 : Shape := ⟨3, ![8, 2048, 1]⟩
abbrev S8x2048x3 : Shape := ⟨3, ![8, 2048, 3]⟩

abbrev nBuf : Space → Nat
  | .hbm => 16
  | .vmem => 8
  | .smem => 0
  | _ => 0

abbrev bufTy : (tb : Table) → Fin (tcTables nBuf tb) → BufTy
  | .hbm, ⟨0, _⟩ => ⟨S8x16384x3, .f32⟩
  | .hbm, ⟨1, _⟩ => ⟨S3x8x16384, .f32⟩
  | .hbm, ⟨2, _⟩ => ⟨S1x8x16384, .f32⟩
  | .hbm, ⟨3, _⟩ => ⟨S8x16384, .f32⟩
  | .hbm, ⟨4, _⟩ => ⟨S1x8x16384, .f32⟩
  | .hbm, ⟨5, _⟩ => ⟨S8x16384, .f32⟩
  | .hbm, ⟨6, _⟩ => ⟨S1x8x16384, .f32⟩
  | .hbm, ⟨7, _⟩ => ⟨S8x16384, .f32⟩
  | .hbm, ⟨8, _⟩ => ⟨S8x2048, .i32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x3, .f32⟩
  | .local _ .vmem, ⟨0, _⟩ => ⟨S8x16384, .f32⟩
  | .local _ .vmem, ⟨1, _⟩ => ⟨S8x16384, .f32⟩
  | .local _ .vmem, ⟨2, _⟩ => ⟨S8x16384, .f32⟩
  | .local _ .vmem, ⟨3, _⟩ => ⟨S8x2048, .i32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x16384, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7_0 : Ref sig .tc := ⟨.hbm, 8, rfl⟩
abbrev main_v7_1 : Ref sig .tc := ⟨.hbm, 9, rfl⟩
abbrev main_v7_2 : Ref sig .tc := ⟨.hbm, 10, rfl⟩
abbrev main_v7_3 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_15 : BitVec 32 := 0#32
  let c2048_i32 : BitVec 32 := 2048#32
  let v30 : BitVec 32 := Scalar.addi c0_i32_15 c2048_i32
  let c1_i32 : BitVec 32 := 1#32
  ⟨c0_i32_15, v30, c1_i32⟩
def k0_cond1 (k0_t1 : Fin k0_t1_loop.trips) : BitVec 1 :=
  let c0_i32_15 : BitVec 32 := 0#32
  let c1_i32 : BitVec 32 := 1#32
  let arg8 : BitVec 32 := Scf.iv c0_i32_15 c1_i32 k0_t1
  let c1_i32_1178 : BitVec 32 := 1#32
  let v3761 : BitVec 32 := Scalar.addi arg8 c1_i32_1178
  let c128_i32_1179 : BitVec 32 := 128#32
  let v3762 : BitVec 32 := Scalar.remsi v3761 c128_i32_1179
  let c127_i32_1180 : BitVec 32 := 127#32
  let v3777 : BitVec 1 := Scalar.cmpi .eq v3762 c127_i32_1180
  let v3778 : BitVec 32 := Scalar.extui v3777
  let c0_i32_1181 : BitVec 32 := 0#32
  let v3779 : BitVec 1 := Scalar.cmpi .ne v3778 c0_i32_1181
  v3779

def k0_mult1 (k0_t1 : Fin k0_t1_loop.trips) : BitVec 32 :=
  let c0_i32_15 : BitVec 32 := 0#32
  let c1_i32 : BitVec 32 := 1#32
  let arg8 : BitVec 32 := Scf.iv c0_i32_15 c1_i32 k0_t1
  let c126_i32_1182 : BitVec 32 := 126#32
  let v3780 : BitVec 32 := Scalar.subi arg8 c126_i32_1182
  v3780
def k0_off1 (k0_t1 : Fin k0_t1_loop.trips) : Fin 2 → Nat :=
  let c0_1183 : Index := 0#32
  let c0_i32_15 : BitVec 32 := 0#32
  let c1_i32 : BitVec 32 := 1#32
  let arg8 : BitVec 32 := Scf.iv c0_i32_15 c1_i32 k0_t1
  let c126_i32_1182 : BitVec 32 := 126#32
  let v3780 : BitVec 32 := Scalar.subi arg8 c126_i32_1182
  let v3781 : BitVec 32 := v3780
  let v3782 : Index := Scalar.indexCast v3781
  ![0, v3782.toNat]
abbrev stage0_0 : Fin 1 → Memref sig .tc .vmem S8x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S8x16384x3 : Shape := ⟨3, ![8, 16384, 3]⟩
abbrev S_ : Shape := ⟨0, ![]⟩
abbrev S8x2048 : Shape := ⟨2, ![8, 2048]⟩
abbrev S8x16384 : Shape := ⟨2, ![8, 16384]⟩
abbrev S8 : Shape := ⟨1, ![8]⟩
abbrev S1 : Shape := ⟨1, ![1]⟩
abbrev S8x1x1 : Shape := ⟨3, ![8, 1, 1]⟩
abbrev S8x1x3 : Shape := ⟨3, ![8, 1, 3]⟩
abbrev S8x1x3x1 : Shape := ⟨4, ![8, 1, 3, 1]⟩
abbrev S1x1x1x1 : Shape := ⟨4, ![1, 1, 1, 1]⟩
abbrev S8x2048x1 : Shape := ⟨3, ![8, 2048, 1]⟩
abbrev S8x2048x3 : Shape := ⟨3, ![8, 2048, 3]⟩
abbrev S8x2048x3x1 : Shape := ⟨4, ![8, 2048, 3, 1]⟩

abbrev nBuf : Space → Nat
  | .hbm => 88
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S_, .i32⟩
  | .hbm, ⟨2, _⟩ => ⟨S8x2048, .i32⟩
  | .hbm, ⟨3, _⟩ => ⟨S_, .f32⟩
  | .hbm, ⟨4, _⟩ => ⟨S8x16384, .f32⟩
  | .hbm, ⟨5, _⟩ => ⟨S_, .i32⟩
  | .hbm, ⟨6, _⟩ => ⟨S8, .i32⟩
  | .hbm, ⟨7, _⟩ => ⟨S_, .i32⟩
  | .hbm, ⟨8, _⟩ => ⟨S_, .i32⟩
  | .hbm, ⟨9, _⟩ => ⟨S8x16384x3, .f32⟩
  | .hbm, ⟨10, _⟩ => ⟨S_, .i32⟩
  | .hbm, ⟨11, _⟩ => ⟨S_, .i32⟩
  | .hbm, ⟨12, _⟩ => ⟨S8x2048, .i32⟩
  | .hbm, ⟨13, _⟩ => ⟨S8x16384, .f32⟩
  | .hbm, ⟨14, _⟩ => ⟨S8, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S8x2048, .i32⟩
  | .hbm, ⟨27, _⟩ => ⟨S8x1x1, .i32⟩
  | .hbm, ⟨28, _⟩ => ⟨S8x1x3, .i32⟩
  | .hbm, ⟨29, _⟩ => ⟨S_, .i32⟩
  | .hbm, ⟨30, _⟩ => ⟨S8x1x3, .i32⟩
  | .hbm, ⟨31, _⟩ => ⟨S8x1x3, .i1⟩
  | .hbm, ⟨32, _⟩ => ⟨S_, .i32⟩
  | .hbm, ⟨33, _⟩ => ⟨S8x1x3, .i32⟩
  | .hbm, ⟨34, _⟩ => ⟨S8x1x3, .i32⟩
  | .hbm, ⟨35, _⟩ => ⟨S8x1x3, .i32⟩
  | .hbm, ⟨36, _⟩ => ⟨S8x1x3x1, .i32⟩
  | .hbm, ⟨37, _⟩ => ⟨S1, .i32⟩
  | .hbm, ⟨38, _⟩ => ⟨S_, .i32⟩
  | .hbm, ⟨39, _⟩ => ⟨S8x1x3x1, .i32⟩
  | .hbm, ⟨40, _⟩ => ⟨S8x1x3x1, .i1⟩
  | .hbm, ⟨41, _⟩ => ⟨S1x1x1x1, .i32⟩
  | .hbm, ⟨42, _⟩ => ⟨S8x1x3x1, .i32⟩
  | .hbm, ⟨43, _⟩ => ⟨S8x1x3x1, .i1⟩
  | .hbm, ⟨44, _⟩ => ⟨S8x1x3x1, .i1⟩
  | .hbm, ⟨45, _⟩ => ⟨S_, .i1⟩
  | .hbm, ⟨46, _⟩ => ⟨S8x1x3, .i1⟩
  | .hbm, ⟨47, _⟩ => ⟨S8x1x3, .f32⟩
  | .hbm, ⟨48, _⟩ => ⟨S_, .f32⟩
  | .hbm, ⟨49, _⟩ => ⟨S8x1x3, .f32⟩
  | .hbm, ⟨50, _⟩ => ⟨S8x1x3, .f32⟩
  | .hbm, ⟨51, _⟩ => ⟨S8x16384x3, .f32⟩
  | .hbm, ⟨52, _⟩ => ⟨S8x16384x3, .f32⟩
  | .hbm, ⟨53, _⟩ => ⟨S8x16384x3, .f32⟩
  | .hbm, ⟨54, _⟩ => ⟨S_, .f32⟩
  | .hbm, ⟨55, _⟩ => ⟨S8x16384, .f32⟩
  | .hbm, ⟨56, _⟩ => ⟨S8x16384, .f32⟩
  | .hbm, ⟨57, _⟩ => ⟨S8x16384, .i32⟩
  | .hbm, ⟨58, _⟩ => ⟨S_, .f32⟩
  | .hbm, ⟨59, _⟩ => ⟨S_, .i32⟩
  | .hbm, ⟨60, _⟩ => ⟨S8, .f32⟩
  | .hbm, ⟨61, _⟩ => ⟨S8, .i32⟩
  | .hbm, ⟨62, _⟩ => ⟨S_, .i32⟩
  | .hbm, ⟨63, _⟩ => ⟨S_, .i32⟩
  | .hbm, ⟨64, _⟩ => ⟨S8x2048x1, .i32⟩
  | .hbm, ⟨65, _⟩ => ⟨S8x2048x3, .i32⟩
  | .hbm, ⟨66, _⟩ => ⟨S_, .i32⟩
  | .hbm, ⟨67, _⟩ => ⟨S8x2048x3, .i32⟩
  | .hbm, ⟨68, _⟩ => ⟨S8x2048x3, .i1⟩
  | .hbm, ⟨69, _⟩ => ⟨S_, .i32⟩
  | .hbm, ⟨70, _⟩ => ⟨S8x2048x3, .i32⟩
  | .hbm, ⟨71, _⟩ => ⟨S8x2048x3, .i32⟩
  | .hbm, ⟨72, _⟩ => ⟨S8x2048x3, .i32⟩
  | .hbm, ⟨73, _⟩ => ⟨S8x2048x3x1, .i32⟩
  | .hbm, ⟨74, _⟩ => ⟨S1, .i32⟩
  | .hbm, ⟨75, _⟩ => ⟨S_, .i32⟩
  | .hbm, ⟨76, _⟩ => ⟨S8x2048x3x1, .i32⟩
  | .hbm, ⟨77, _⟩ => ⟨S8x2048x3x1, .i1⟩
  | .hbm, ⟨78, _⟩ => ⟨S1x1x1x1, .i32⟩
  | .hbm, ⟨79, _⟩ => ⟨S8x2048x3x1, .i32⟩
  | .hbm, ⟨80, _⟩ => ⟨S8x2048x3x1, .i1⟩
  | .hbm, ⟨81, _⟩ => ⟨S8x2048x3x1, .i1⟩
  | .hbm, ⟨82, _⟩ => ⟨S_, .i1⟩
  | .hbm, ⟨83, _⟩ => ⟨S8x2048x3, .i1⟩
  | .hbm, ⟨84, _⟩ => ⟨S8x2048x3, .f32⟩
  | .hbm, ⟨85, _⟩ => ⟨S_, .f32⟩
  | .hbm, ⟨86, _⟩ => ⟨S8x2048x3, .f32⟩
  | .hbm, ⟨87, _⟩ => ⟨S8x2048x3, .f32⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_8 : Ref sig .tc := ⟨.hbm, 15, rfl⟩
abbrev main_while0c_v7 : Ref sig .tc := ⟨.hbm, 16, rfl⟩
abbrev main_while0b_c_8 : Ref sig .tc := ⟨.hbm, 17, rfl⟩
abbrev main_while0b_v7 : Ref sig .tc := ⟨.hbm, 18, rfl⟩
abbrev main_while0b_c_9 : Ref sig .tc := ⟨.hbm, 19, rfl⟩
abbrev main_while0b_v8 : Ref sig .tc := ⟨.hbm, 20, rfl⟩
abbrev main_while0b_c_10 : Ref sig .tc := ⟨.hbm, 21, rfl⟩
abbrev main_while0b_v9 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_v13 : Ref sig .tc := ⟨.hbm, 26, rfl⟩
abbrev main_while0b_v14 : Ref sig .tc := ⟨.hbm, 27, rfl⟩
abbrev main_while0b_v15 : Ref sig .tc := ⟨.hbm, 28, rfl⟩
abbrev main_while0b_call0_c : Ref sig .tc := ⟨.hbm, 29, rfl⟩
abbrev main_while0b_call0_v0 : Ref sig .tc := ⟨.hbm, 30, rfl⟩
abbrev main_while0b_call0_v1 : Ref sig .tc := ⟨.hbm, 31, rfl⟩
abbrev main_while0b_call0_c_0 : Ref sig .tc := ⟨.hbm, 32, rfl⟩
abbrev main_while0b_call0_v2 : Ref sig .tc := ⟨.hbm, 33, rfl⟩
abbrev main_while0b_call0_v3 : Ref sig .tc := ⟨.hbm, 34, rfl⟩
abbrev main_while0b_call0_v4 : Ref sig .tc := ⟨.hbm, 35, rfl⟩
abbrev main_while0b_call0_v5 : Ref sig .tc := ⟨.hbm, 36, rfl⟩
abbrev main_while0b_call0_c_1 : Ref sig .tc := ⟨.hbm, 37, rfl⟩
abbrev main_while0b_call0_c_2 : Ref sig .tc := ⟨.hbm, 38, rfl⟩
abbrev main_while0b_call0_v6 : Ref sig .tc := ⟨.hbm, 39, rfl⟩
abbrev main_while0b_call0_v7 : Ref sig .tc := ⟨.hbm, 40, rfl⟩
abbrev main_while0b_call0_v8 : Ref sig .tc := ⟨.hbm, 41, rfl⟩
abbrev main_while0b_call0_v9 : Ref sig .tc := ⟨.hbm, 42, rfl⟩
abbrev main_while0b_call0_v10 : Ref sig .tc := ⟨.hbm, 43, rfl⟩
abbrev main_while0b_call0_v11 : Ref sig .tc := ⟨.hbm, 44, rfl⟩
abbrev main_while0b_call0_c_3 : Ref sig .tc := ⟨.hbm, 45, rfl⟩
abbrev main_while0b_call0_v12 : Ref sig .tc := ⟨.hbm, 46, rfl⟩
abbrev main_while0b_call0_v13 : Ref sig .tc := ⟨.hbm, 47, rfl⟩
abbrev main_while0b_call0_cst : Ref sig .tc := ⟨.hbm, 48, rfl⟩
abbrev main_while0b_call0_v14 : Ref sig .tc := ⟨.hbm, 49, rfl⟩
abbrev main_while0b_v16 : Ref sig .tc := ⟨.hbm, 50, rfl⟩
abbrev main_while0b_v17 : Ref sig .tc := ⟨.hbm, 51, rfl⟩
abbrev main_while0b_v18 : Ref sig .tc := ⟨.hbm, 52, rfl⟩
abbrev main_while0b_v19 : Ref sig .tc := ⟨.hbm, 53, rfl⟩
abbrev main_while0b_cst_11 : Ref sig .tc := ⟨.hbm, 54, rfl⟩
abbrev main_while0b_v20 : Ref sig .tc := ⟨.hbm, 55, rfl⟩
abbrev main_while0b_v21 : Ref sig .tc := ⟨.hbm, 56, rfl⟩
abbrev main_while0b_call1_v0 : Ref sig .tc := ⟨.hbm, 57, rfl⟩
abbrev main_while0b_call1_cst : Ref sig .tc := ⟨.hbm, 58, rfl⟩
abbrev main_while0b_call1_c : Ref sig .tc := ⟨.hbm, 59, rfl⟩
abbrev main_while0b_call1_v1_0 : Ref sig .tc := ⟨.hbm, 60, rfl⟩
abbrev main_while0b_v22 : Ref sig .tc := ⟨.hbm, 61, rfl⟩
abbrev main_while0b_c_12 : Ref sig .tc := ⟨.hbm, 62, rfl⟩
abbrev main_while0b_v23 : Ref sig .tc := ⟨.hbm, 63, rfl⟩
abbrev main_v4 : Ref sig .tc := ⟨.hbm, 64, rfl⟩
abbrev main_v5 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_cst : Ref sig .tc := ⟨.hbm, 85, rfl⟩
abbrev main_call2_v14 : Ref sig .tc := ⟨.hbm, 86, rfl⟩
abbrev main_v6 : Ref sig .tc := ⟨.hbm, 87, rfl⟩

abbrev nD : Nat := 1
abbrev τ : Topo := Topo.v7x

variable {F : FTy → Type} [FloatOps F]

abbrev main_while0_count : Scf.Loop 32 := ⟨0#32, 2048#32, 1#32⟩
-- ==== Proof.Fps.Spec.lean ====
/- Farthest point sampling as plain mathematics: the running distances and the chosen points. -/
module

public import Idealize.ShloMosaic.PureOps.Ideal.Laws
public import Idealize.ShloMosaic.Lib.Pipeline.ValueKit

@[expose] public section

noncomputable section

namespace Cert.Fps

open Idealize.ShloMosaic

/-- Among the places `lo ≤ n < hi`, the function is largest at `k`, and nowhere as large before it. -/
def Best (f : ℕ → EReal) (lo hi k : ℕ) : Prop :=
  lo ≤ k ∧ k < hi ∧ ∀ n, lo ≤ n → n < hi → f n ≤ f k ∧ (n < k → f n < f k)

/-- A single place is its own best. -/
theorem Best.one (f : ℕ → EReal) (c : ℕ) : Best f c (c + 1) c :=
  ⟨le_rfl, Nat.lt_succ_self c, fun n h1 h2 =>
    have e : n = c := by omega
    ⟨e ▸ le_rfl, fun h => absurd h (by omega)⟩⟩

/-- There is only one best place. -/
theorem Best.unique {f : ℕ → EReal} {lo hi p q : ℕ} (hp : Best f lo hi p) (hq : Best f lo hi q) : p = q := by
  rcases lt_trichotomy p q with h | h | h
  · exact absurd ((hq.2.2 p hp.1 hp.2.1).2 h) (not_lt.2 (hp.2.2 q hq.1 hq.2.1).1)
  · exact h
  · exact absurd ((hp.2.2 q hq.1 hq.2.1).2 h) (not_lt.2 (hq.2.2 p hp.1 hp.2.1).1)

/-- The best of two adjoining ranges: the second's where it is strictly larger. -/
theorem Best.right {f : ℕ → EReal} {lo mid hi p q : ℕ} (hp : Best f lo mid p) (hq : Best f mid hi q)
    (h : f p < f q) : Best f lo hi q := by
  have h1 := hp.1; have h2 := hp.2.1; have h3 := hq.1
  refine ⟨by omega, hq.2.1, fun n hn hn' => ?_⟩
  by_cases e : n < mid
  · have := lt_of_le_of_lt (hp.2.2 n hn e).1 h
    exact ⟨this.le, fun _ => this⟩
  · exact hq.2.2 n (by omega) hn'

/-- The best of two adjoining ranges: the first's where the second's is not strictly larger. -/
theorem Best.left {f : ℕ → EReal} {lo mid hi p q : ℕ} (hp : Best f lo mid p) (hq : Best f mid hi q)
    (h : ¬ f p < f q) : Best f lo hi p := by
  have h1 := hp.1; have h2 := hp.2.1; have h3 := hq.1; have h4 := hq.2.1
  refine ⟨hp.1, by omega, fun n hn hn' => ?_⟩
  by_cases e : n < mid
  · exact hp.2.2 n hn e
  · exact ⟨(hq.2.2 n (by omega) hn').1.trans (not_lt.1 h), fun c => absurd c (by omega)⟩

/-- Every range from 0 that is not empty has a best place. -/
theorem exists_best (f : ℕ → EReal) : ∀ n, ∃ p, Best f 0 (n + 1) p
  | 0 => ⟨0, Best.one f 0⟩
  | n + 1 => by
    obtain ⟨p, hp⟩ := exists_best f n
    by_cases h : f p < f (n + 1)
    · exact ⟨_, hp.right (Best.one f (n + 1)) h⟩
    · exact ⟨_, hp.left (Best.one f (n + 1)) h⟩

/-- The first place of the largest of 16384 values. -/
def far (f : ℕ → EReal) : ℕ := (exists_best f 16383).choose

/-- It is the best place of the whole row. -/
theorem far_best (f : ℕ → EReal) : Best f 0 16384 (far f) := (exists_best f 16383).choose_spec

/-- It lies in the row. -/
theorem far_lt (f : ℕ → EReal) : far f < 16384 := (far_best f).2.1

/-- Whatever is the best place of the row is that place. -/
theorem far_eq {f : ℕ → EReal} {p : ℕ} (h : Best f 0 16384 p) : p = far f := h.unique (far_best f)

/-- A batch's distances (`p` its points' coordinates) and current point, before round `k`. -/
def sample (p : ℕ → Fin 3 → EReal) : ℕ → (ℕ → EReal) × ℕ
  | 0 => (fun _ => ⊤, 0)
  | k + 1 =>
    let d := fun n => min ((sample p k).1 n) (∑ a : Fin 3, (p n a - p (sample p k).2 a) * (p n a - p (sample p k).2 a))
    (d, far d)

/-- A current point is one of the 16384. -/
theorem sample_lt (p : ℕ → Fin 3 → EReal) : ∀ k, (sample p k).2 < 16384
  | 0 => by show 0 < 16384; omega
  | k + 1 => far_lt _

/-- The coordinates of a batch's points. -/
def coords (P : (⟨3, ![8, 16384, 3]⟩ : Shape).Idx → EReal) (b : Fin 8) (n : ℕ) (a : Fin 3) : EReal :=
  P (ValueIdx.ix3 b (Fin.ofNat 16384 n) a)

/-- The numbers of the 2048 points sampled from each batch. -/
def sampledIdx (P : (⟨3, ![8, 16384, 3]⟩ : Shape).Idx → EReal) : (⟨2, ![8, 2048]⟩ : Shape).Idx → BitVec 32 :=
  fun i => BitVec.ofNat 32 (sample (coords P (i 0)) (i 1).val).2

/-- The coordinates of the points sampled. -/
def sampledPts (P : (⟨3, ![8, 16384, 3]⟩ : Shape).Idx → EReal) : (⟨3, ![8, 2048, 3]⟩ : Shape).Idx → EReal :=
  fun i => coords P (i 0) (sample (coords P (i 0)) (i 1).val).2 (i 2)

end Cert.Fps
-- ==== Proof.Fps.Body.lean ====
/- The trip of the kernel's sampling loop, written as a recursion over the 128 chunks of lanes. -/
module

public import proofs.«01_k».proof.Proof.Gen.KernelIdeal.Skeleton

@[expose] public section

noncomputable section

namespace Cert.Fps

open Idealize.ShloMosaic Idealize.SL.Sem Cert.KernelIdeal Cert.KernelIdeal.Gen

variable {F : FTy → Type} [FloatOps F]

/-- The running best of a group of chunks, lane by lane: distance, chunk and the three coordinates. -/
structure Acc (F : FTy → Type) where
  dist : FVec F S8x128 .f32
  chunk : IVec S8x128 32
  x : FVec F S8x128 .f32
  y : FVec F S8x128 .f32
  z : FVec F S8x128 .f32

/-- The chunks lie inside the row of 16384 points. -/
theorem chunk_inb {c : ℕ} (hc : c < 128) :
    ∀ a, (![0, 128 * c] : Fin 2 → ℕ) a + S8x128.size a ≤ S8x16384.size a := by
  intro a
  fin_cases a
  · exact Nat.le_refl 8
  · show 128 * c + 128 ≤ 16384
    omega

/-- The box of chunk `c`: all eight batches, 128 points from `128 * c` on. -/
abbrev chunkRect (c : ℕ) (hc : c < 128) : Rect S8x16384 :=
  Rect.unit (s := S8x16384) ![0, 128 * c] S8x128.size (chunk_inb hc)

/-- A loaded block, as the kernel casts it to its own shape. -/
abbrev cast128 {F : FTy → Type} (v : Vec F S8x128 .f32) : FVec F S8x128 .f32 :=
  shapeCast S8x128 v shapeCasts_S8x128_S8x128

/-- The squared distance of a chunk's points from the current centroid, capped by the distances stored so far. -/
def newDist (fx fy fz : FVec F S8x1 .f32) (xv yv zv dv : Vec F S8x128 .f32) : FVec F S8x128 .f32 :=
  minimumf dv
    (addf (addf
      (mulf (subf (cast128 xv) (broadcastTo S8x128 fx broadcasts_S8x1_S8x128))
        (subf (cast128 xv) (broadcastTo S8x128 fx broadcasts_S8x1_S8x128)))
      (mulf (subf (cast128 yv) (broadcastTo S8x128 fy broadcasts_S8x1_S8x128))
        (subf (cast128 yv) (broadcastTo S8x128 fy broadcasts_S8x1_S8x128))))
      (mulf (subf (cast128 zv) (broadcastTo S8x128 fz broadcasts_S8x1_S8x128))
        (subf (cast128 zv) (broadcastTo S8x128 fz broadcasts_S8x1_S8x128))))

/-- A group's first chunk: everything it holds is the best so far. -/
def startAcc (c : ℕ) (fx fy fz : FVec F S8x1 .f32) (xv yv zv dv : Vec F S8x128 .f32) : Acc F :=
  ⟨newDist fx fy fz xv yv zv dv, broadcast S8x128 (BitVec.ofNat 32 c), cast128 xv, cast128 yv, cast128 zv⟩

/-- A later chunk replaces the best where its distance is strictly larger. -/
def stepAcc (c : ℕ) (fx fy fz : FVec F S8x1 .f32) (xv yv zv dv : Vec F S8x128 .f32) (a : Acc F) : Acc F :=
  ⟨maximumf (newDist fx fy fz xv yv zv dv) a.dist,
   select (cmpf .ogt (newDist fx fy fz xv yv zv dv) a.dist) (broadcast S8x128 (BitVec.ofNat 32 c)) a.chunk,
   select (cmpf .ogt (newDist fx fy fz xv yv zv dv) a.dist) (cast128 xv) a.x,
   select (cmpf .ogt (newDist fx fy fz xv yv zv dv) a.dist) (cast128 yv) a.y,
   select (cmpf .ogt (newDist fx fy fz xv yv zv dv) a.dist) (cast128 zv) a.z⟩

/-- The two groups' bests merged, the first group's kept where they tie. -/
def mergeAcc (a b : Acc F) : Acc F :=
  ⟨maximumf b.dist a.dist, select (cmpf .ogt b.dist a.dist) b.chunk a.chunk,
   select (cmpf .ogt b.dist a.dist) b.x a.x, select (cmpf .ogt b.dist a.dist) b.y a.y,
   select (cmpf .ogt b.dist a.dist) b.z a.z⟩

/-- One chunk's memory operations, its accumulator handed to `k`. -/
def chunkProg {β : Type} (arg0 arg1 arg2 arg7 : Memref sig .tc .vmem S8x16384 .f32)
    (fx fy fz : FVec F S8x1 .f32) (c : ℕ) (hc : c < 128)
    (k : Vec F S8x128 .f32 → Vec F S8x128 .f32 → Vec F S8x128 .f32 → Vec F S8x128 .f32 →
      Prog (TpuEff nD τ sig (Elt F) Λ₀ .tc) β) : Prog (TpuEff nD τ sig (Elt F) Λ₀ .tc) β :=
  .op (.load arg0 (chunkRect c hc).toLoadRect (View.loadsAt_vmem h_S8x128)) fun xv =>
  .op (.load arg1 (chunkRect c hc).toLoadRect (View.loadsAt_vmem h_S8x128)) fun yv =>
  .op (.load arg2 (chunkRect c hc).toLoadRect (View.loadsAt_vmem h_S8x128)) fun zv =>
  .op (.load arg7 (chunkRect c hc).toLoadRect (View.loadsAt_vmem h_S8x128)) fun dv =>
  .op (.load arg7 (chunkRect c hc).toLoadRect (View.loadsAt_vmem h_S8x128)) fun _ =>
  .op (.store arg7 (chunkRect c hc)
    (cast128 (newDist fx fy fz xv yv zv dv)) Finset.univ
    (View.stores_vmem_bits_univ h_S8x128 rfl) (.inl rfl)) fun _ => k xv yv zv dv

/-- `n` further chunks from chunk `c` on. -/
def chunksProg {β : Type} (arg0 arg1 arg2 arg7 : Memref sig .tc .vmem S8x16384 .f32)
    (fx fy fz : FVec F S8x1 .f32) (k : Acc F → Prog (TpuEff nD τ sig (Elt F) Λ₀ .tc) β) :
    (n c : ℕ) → c + n ≤ 128 → Acc F → Prog (TpuEff nD τ sig (Elt F) Λ₀ .tc) β
  | 0, _, _, a => k a
  | n + 1, c, h, a => chunkProg arg0 arg1 arg2 arg7 fx fy fz c (by omega) fun xv yv zv dv =>
      chunksProg arg0 arg1 arg2 arg7 fx fy fz k n (c + 1) (by omega) (stepAcc c fx fy fz xv yv zv dv a)

/-- A group of 64 chunks from chunk `c` on. -/
def groupProg {β : Type} (arg0 arg1 arg2 arg7 : Memref sig .tc .vmem S8x16384 .f32)
    (fx fy fz : FVec F S8x1 .f32) (c : ℕ) (h : c + 64 ≤ 128)
    (k : Acc F → Prog (TpuEff nD τ sig (Elt F) Λ₀ .tc) β) : Prog (TpuEff nD τ sig (Elt F) Λ₀ .tc) β :=
  chunkProg arg0 arg1 arg2 arg7 fx fy fz c (by omega) fun xv yv zv dv =>
    chunksProg arg0 arg1 arg2 arg7 fx fy fz k 63 (c + 1) (by omega) (startAcc c fx fy fz xv yv zv dv)

/-- The point numbers of the lanes' bests. -/
def flatIdx (v4 : IVec S8x128 32) (a : Acc F) : IVec S8x128 32 :=
  addi (muli a.chunk (broadcast S8x128 128#32)) v4

/-- The least point number among the lanes at the largest distance. -/
def pickIdx (v4 : IVec S8x128 32) (a : Acc F) : IVec S8x1 32 :=
  shapeCast S8x1 (multiReductionI .minsi [1] S8
    (select (cmpf .oeq a.dist (broadcastTo S8x128 (shapeCast S8x1
        (multiReduction .maximumf [1] S8 a.dist 0xFF800000#32 reduces_S8x128_S8 (.inl rfl) rfl)
        shapeCasts_S8_S8x1) broadcasts_S8x1_S8x128))
      (flatIdx v4 a) (broadcast S8x128 16384#32))
    2147483647#32 reduces_S8x128_S8 rfl) shapeCasts_S8_S8x1

/-- A coordinate of the chosen point: the sum over the lanes of the one that holds it. -/
def pickCoord (v4 : IVec S8x128 32) (a : Acc F) (v : FVec F S8x128 .f32) : FVec F S8x1 .f32 :=
  shapeCast S8x1 (multiReduction .add [1] S8
    (select (cmpi .eq (flatIdx v4 a) (broadcastTo S8x128 (pickIdx v4 a) broadcasts_S8x1_S8x128)) v
      (broadcast S8x128 (Scalar.ofBits .f32 0x00000000#32 : F .f32)))
    0x00000000#32 reduces_S8x128_S8 (.inl rfl) rfl) shapeCasts_S8_S8x1

/-- The lane that the next sample goes to, in the block of 128 samples being gathered. -/
def laneMask (v4 : IVec S8x128 32) (k : Fin k0_t1_loop.trips) : IVec S8x128 1 :=
  cmpi .eq v4 (broadcast S8x128 (Scalar.remsi (Scalar.addi (Scf.iv 0#32 1#32 k) 1#32) 128#32))

/-- What a trip carries on: the gathered samples' numbers and coordinates, and the current centroid. -/
abbrev Carry (F : FTy → Type) : Type :=
  IVec S8x128 32 × FVec F S8x128 .f32 × FVec F S8x128 .f32 × FVec F S8x128 .f32 ×
    FVec F S8x1 .f32 × FVec F S8x1 .f32 × FVec F S8x1 .f32

/-- The box of an output that a flush writes. -/
abbrev flushRect (k : Fin k0_t1_loop.trips) (h : k0_cond1 k = 1#1) : Rect S8x2048 :=
  Rect.unit (s := S8x2048) (k0_off1 k) S8x128.size (k0_off1_inb k h)

/-- The gathered samples after a trip whose chunks' merged best is `a`. -/
def finish (v4 : IVec S8x128 32) (k : Fin k0_t1_loop.trips) (s : Carry F) (a : Acc F) : Carry F :=
  (k0_pay11 s.1 (pickIdx v4 a) (laneMask v4 k),
   k0_pay12 s.2.1 (pickCoord v4 a a.x) (laneMask v4 k),
   k0_pay13 s.2.2.1 (pickCoord v4 a a.y) (laneMask v4 k),
   k0_pay14 s.2.2.2.1 (pickCoord v4 a a.z) (laneMask v4 k),
   pickCoord v4 a a.x, pickCoord v4 a a.y, pickCoord v4 a a.z)

/-- The flush: on the last trip of a block the gathered samples go to the outputs. -/
def flushProg (arg3 : Memref sig .tc .vmem S8x2048 .i32) (arg4 arg5 arg6 : Memref sig .tc .vmem S8x2048 .f32)
    (k : Fin k0_t1_loop.trips) (s : Carry F) : Prog (TpuEff nD τ sig (Elt F) Λ₀ .tc) (Carry F) :=
  if h : k0_cond1 k = 1#1 then
    .op (.load arg3 (flushRect k h).toLoadRect (View.loadsAt_vmem h_S8x128)) fun _ =>
    .op (.store arg3 (flushRect k h) s.1 Finset.univ (View.stores_vmem_bits_univ h_S8x128 rfl) (.inl rfl)) fun _ =>
    .op (.load arg4 (flushRect k h).toLoadRect (View.loadsAt_vmem h_S8x128)) fun _ =>
    .op (.store arg4 (flushRect k h) s.2.1 Finset.univ (View.stores_vmem_bits_univ h_S8x128 rfl) (.inl rfl)) fun _ =>
    .op (.load arg5 (flushRect k h).toLoadRect (View.loadsAt_vmem h_S8x128)) fun _ =>
    .op (.store arg5 (flushRect k h) s.2.2.1 Finset.univ (View.stores_vmem_bits_univ h_S8x128 rfl) (.inl rfl)) fun _ =>
    .op (.load arg6 (flushRect k h).toLoadRect (View.loadsAt_vmem h_S8x128)) fun _ =>
    .op (.store arg6 (flushRect k h) s.2.2.2.1 Finset.univ (View.stores_vmem_bits_univ h_S8x128 rfl) (.inl rfl)) fun _ =>
    .ret s
  else .ret s

/-- A whole trip: two groups of 64 chunks, their merge, the choice of the next centroid and the flush. -/
def tripProg (arg0 arg1 arg2 : Memref sig .tc .vmem S8x16384 .f32) (arg3 : Memref sig .tc .vmem S8x2048 .i32)
    (arg4 arg5 arg6 : Memref sig .tc .vmem S8x2048 .f32) (arg7 : Memref sig .tc .vmem S8x16384 .f32)
    (v4 : IVec S8x128 32) (k : Fin k0_t1_loop.trips) (s : Carry F) :
    Prog (TpuEff nD τ sig (Elt F) Λ₀ .tc) (Carry F) :=
  groupProg arg0 arg1 arg2 arg7 s.2.2.2.2.1 s.2.2.2.2.2.1 s.2.2.2.2.2.2 0 (by omega) fun a =>
  groupProg arg0 arg1 arg2 arg7 s.2.2.2.2.1 s.2.2.2.2.2.1 s.2.2.2.2.2.2 64 (by omega) fun b =>
  flushProg arg3 arg4 arg5 arg6 k (finish v4 k s (mergeAcc a b))

set_option maxRecDepth 65536 in
set_option maxHeartbeats 0 in
/-- The printed trip is the recursion over the chunks. -/
theorem trip_eq (arg0 : Memref sig .tc .vmem S8x16384 .f32) (harg0 : arg0.IsWhole)
    (arg1 : Memref sig .tc .vmem S8x16384 .f32) (harg1 : arg1.IsWhole)
    (arg2 : Memref sig .tc .vmem S8x16384 .f32) (harg2 : arg2.IsWhole)
    (arg3 : Memref sig .tc .vmem S8x2048 .i32) (harg3 : arg3.IsWhole)
    (arg4 : Memref sig .tc .vmem S8x2048 .f32) (harg4 : arg4.IsWhole)
    (arg5 : Memref sig .tc .vmem S8x2048 .f32) (harg5 : arg5.IsWhole)
    (arg6 : Memref sig .tc .vmem S8x2048 .f32) (harg6 : arg6.IsWhole)
    (arg7 : Memref sig .tc .vmem S8x16384 .f32) (harg7 : arg7.IsWhole) (v4 : IVec S8x128 32)
    (k : Fin k0_t1_loop.trips) (s : Carry F) :
    k0_t1_body (F := F) arg0 harg0 arg1 harg1 arg2 harg2 arg3 harg3 arg4 harg4 arg5 harg5 arg6 harg6 arg7 harg7 v4 k s
      = tripProg arg0 arg1 arg2 arg3 arg4 arg5 arg6 arg7 v4 k s := by
  obtain ⟨a9, a10, a11, a12, a13, a14, a15⟩ := s
  rfl

end Cert.Fps
-- ==== Proof.Fps.Chunk.lean ====
/- What one chunk, a run of chunks and a group of chunks do to the buffers and compute. -/
module

public import proofs.«01_k».proof.Proof.Fps.Body
public import proofs.«01_k».proof.Proof.Gen.KernelIdeal.Frame
public import Idealize.ShloMosaic.Lib.VecWindow
public import Idealize.ShloMosaic.Lib.ValueIdx
public import Idealize.ShloMosaic.Lib.Pipeline.Value

@[expose] public section

noncomputable section

namespace Cert.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix1 ix2 ix3)

variable {F : FTy → Type} [FloatOps F]

local notation "𝕄" => MT nD τ sig Unit (Elt F) ℕ (UR sig nD τ) ℕ

/-- The 128 points of chunk `c` of each row. -/
def chunk (c : ℕ) (hc : c < 128) (X : Vec F S8x16384 .f32) : Vec F S8x128 .f32 :=
  VecWindow.window X ![0, 128 * c] S8x128.size (chunk_inb hc)

/-- The three coordinate arrays, held at their contents. -/
abbrev Coords (c : Dev nD) (arg0 arg1 arg2 : Memref sig .tc .vmem S8x16384 .f32) (X Y Z : Vec F S8x16384 .f32) : sProp 𝕄 :=
  iprop(owns (c : Thread nD τ) arg0 fullShare X ∗ owns (c : Thread nD τ) arg1 fullShare Y ∗ owns (c : Thread nD τ) arg2 fullShare Z)

/-- One chunk stores its new distances over the chunk's window and hands on the four blocks it read. -/
theorem chunk_wp {β : Type} (𝒱 : Variants) (c : Dev nD) (bd : Option 𝒱.V) (E : Set ℕ)
    (arg0 arg1 arg2 arg7 : Memref sig .tc .vmem S8x16384 .f32)
    (fx fy fz : FVec F S8x1 .f32) (n : ℕ) (hn : n < 128) (X Y Z D : Vec F S8x16384 .f32)
    (k : Vec F S8x128 .f32 → Vec F S8x128 .f32 → Vec F S8x128 .f32 → Vec F S8x128 .f32 →
      Prog (TpuEff nD τ sig (Elt F) Λ₀ .tc) β) (Q : β → sProp 𝕄) :
    iprop(Coords c arg0 arg1 arg2 X Y Z ∗ owns (c : Thread nD τ) arg7 fullShare D ∗
      (iprop(Coords c arg0 arg1 arg2 X Y Z ∗ owns (c : Thread nD τ) arg7 fullShare
          (VecWindow.put D ![0, 128 * n] S8x128.size
            (cast128 (newDist fx fy fz (chunk n hn X) (chunk n hn Y) (chunk n hn Z) (chunk n hn D))))) -∗
        wp frame (wpE (defs₀ (F := F)) 𝒱 (c : Thread nD τ) bd) E
          (k (chunk n hn X) (chunk n hn Y) (chunk n hn Z) (chunk n hn D)) Q))
    ⊢ wp frame (wpE (defs₀ (F := F)) 𝒱 (c : Thread nD τ) bd) E
        (chunkProg arg0 arg1 arg2 arg7 fx fy fz n hn k) Q := by
  unfold Coords chunkProg owns
  iintro ⟨⟨⟨%f0, %hf0, H0⟩, ⟨%f1, %hf1, H1⟩, ⟨%f2, %hf2, H2⟩⟩, ⟨%f7, %hf7, H7⟩, Hk⟩
  subst hf0; subst hf1; subst hf2; subst hf7
  sl_exec
  iapply Hk
  isplitl [H0 H1 H2]
  · isplitl [H0]
    · iexists _; isplitr; swap; · iexact H0
      ipureintro; rfl
    isplitl [H1]
    · iexists _; isplitr; swap; · iexact H1
      ipureintro; rfl
    iexists _; isplitr; swap; · iexact H2
    ipureintro; rfl
  iexists _; isplitr; swap; · iexact H7
  ipureintro
  rw [View.read_writes_cons_put _ _ _ _ _ rfl, View.writes_nil]
  rfl

/-- The whole rows' new distances: the squared distances from the centroid, capped by the stored ones. -/
def fullDist (fx fy fz : FVec F S8x1 .f32) (X Y Z D : Vec F S8x16384 .f32) : FVec F S8x16384 .f32 :=
  minimumf D
    (addf (addf
      (mulf (subf X fun i => fx (ix2 (i 0) 0)) (subf X fun i => fx (ix2 (i 0) 0)))
      (mulf (subf Y fun i => fy (ix2 (i 0) 0)) (subf Y fun i => fy (ix2 (i 0) 0))))
      (mulf (subf Z fun i => fz (ix2 (i 0) 0)) (subf Z fun i => fz (ix2 (i 0) 0))))

/-- A column spread over the lanes reads its row's entry. -/
theorem broadcastCol {α : Type} (f : S8x1.Idx → α) (i : S8x128.Idx) :
    broadcastTo S8x128 f broadcasts_S8x1_S8x128 i = f (ix2 (i 0) 0) :=
  congrArg f (funext fun a => by fin_cases a <;> rfl)

/-- A chunk's new distances are the chunk of the rows' new distances. -/
theorem newDist_chunk (fx fy fz : FVec F S8x1 .f32) (n : ℕ) (hn : n < 128) (X Y Z D : Vec F S8x16384 .f32) :
    newDist fx fy fz (chunk n hn X) (chunk n hn Y) (chunk n hn Z) (chunk n hn D)
      = chunk n hn (fullDist fx fy fz X Y Z D) := by
  funext i
  unfold newDist cast128
  simp only [shapeCast_self]
  have e : ∀ f : FVec F S8x1 .f32, broadcastTo S8x128 f broadcasts_S8x1_S8x128
      = chunk n hn (fun i => f (ix2 (i 0) 0)) := by
    intro f
    funext j
    rw [broadcastCol]
    show f _ = f _
    congr 1
    funext a
    fin_cases a
    · exact Fin.ext (by show (j 0).val = 0 + 1 * (j 0).val; omega)
    · rfl
  rw [e, e, e]
  rfl

/-- The stored distances once the first `n` chunks have been done. -/
def mix (n : ℕ) (D D' : Vec F S8x16384 .f32) : Vec F S8x16384 .f32 :=
  fun i => if (i 1).val < 128 * n then D' i else D i

/-- Before any chunk the mixture is the old distances. -/
theorem mix_zero (D D' : Vec F S8x16384 .f32) : mix 0 D D' = D :=
  funext fun i => if_neg (by omega)

/-- After all chunks it is the new ones. -/
theorem mix_all (D D' : Vec F S8x16384 .f32) : mix 128 D D' = D' :=
  funext fun i => if_pos (i 1).isLt

/-- The next chunk still holds what it held. -/
theorem chunk_mix (n : ℕ) (hn : n < 128) (D D' : Vec F S8x16384 .f32) :
    chunk n hn (mix n D D') = chunk n hn D := by
  funext j
  refine if_neg ?_
  show ¬ (128 * n + 1 * (j 1).val < 128 * n)
  omega

/-- Storing the next chunk's distances does one chunk more. -/
theorem put_mix (n : ℕ) (hn : n < 128) (D D' : Vec F S8x16384 .f32) :
    VecWindow.put (mix n D D') ![0, 128 * n] S8x128.size (chunk n hn D') = mix (n + 1) D D' := by
  funext i
  unfold VecWindow.put
  split
  · rename_i h
    have h1 := h 1
    have h2 : 128 * n ≤ (i 1).val ∧ (i 1).val < 128 * n + 128 := h1
    have : mix (n + 1) D D' i = D' i := if_pos (by omega)
    rw [this]
    refine congrArg D' (funext fun a => Fin.ext ?_)
    show (![0, 128 * n] : Fin 2 → ℕ) a + 1 * ((i a).val - (![0, 128 * n] : Fin 2 → ℕ) a) = (i a).val
    have := (h a).1
    omega
  · rename_i h
    have h' : ¬ (128 * n ≤ (i 1).val ∧ (i 1).val < 128 * n + 128) := by
      intro h'
      refine h fun a => ?_
      fin_cases a
      · exact ⟨Nat.zero_le _, by have : (i 0).val < 8 := (i 0).isLt; show (i 0).val < 0 + 8; omega⟩
      · exact h'
    unfold mix
    by_cases h3 : (i 1).val < 128 * n
    · rw [if_pos h3, if_pos (by omega)]
    · rw [if_neg h3, if_neg (by omega)]

/-- The accumulator after `n` further chunks from chunk `c` on. -/
def accFold (fx fy fz : FVec F S8x1 .f32) (X Y Z D : Vec F S8x16384 .f32) :
    (n c : ℕ) → c + n ≤ 128 → Acc F → Acc F
  | 0, _, _, a => a
  | n + 1, c, h, a => accFold fx fy fz X Y Z D n (c + 1) (by omega)
      (stepAcc c fx fy fz (chunk c (by omega) X) (chunk c (by omega) Y) (chunk c (by omega) Z) (chunk c (by omega) D) a)

/-- The accumulator after a group of 64 chunks. -/
def groupAcc (fx fy fz : FVec F S8x1 .f32) (X Y Z D : Vec F S8x16384 .f32) (c : ℕ) (h : c + 64 ≤ 128) : Acc F :=
  accFold fx fy fz X Y Z D 63 (c + 1) (by omega)
    (startAcc c fx fy fz (chunk c (by omega) X) (chunk c (by omega) Y) (chunk c (by omega) Z) (chunk c (by omega) D))

/-- One chunk, the distances stated for the rows. -/
theorem chunk_wp_mix {β : Type} (𝒱 : Variants) (c : Dev nD) (bd : Option 𝒱.V) (E : Set ℕ)
    (arg0 arg1 arg2 arg7 : Memref sig .tc .vmem S8x16384 .f32)
    (fx fy fz : FVec F S8x1 .f32) (n : ℕ) (hn : n < 128) (X Y Z D : Vec F S8x16384 .f32)
    (k : Vec F S8x128 .f32 → Vec F S8x128 .f32 → Vec F S8x128 .f32 → Vec F S8x128 .f32 →
      Prog (TpuEff nD τ sig (Elt F) Λ₀ .tc) β) (Q : β → sProp 𝕄) :
    iprop(Coords c arg0 arg1 arg2 X Y Z ∗ owns (c : Thread nD τ) arg7 fullShare (mix n D (fullDist fx fy fz X Y Z D)) ∗
      (iprop(Coords c arg0 arg1 arg2 X Y Z ∗ owns (c : Thread nD τ) arg7 fullShare
          (mix (n + 1) D (fullDist fx fy fz X Y Z D))) -∗
        wp frame (wpE (defs₀ (F := F)) 𝒱 (c : Thread nD τ) bd) E
          (k (chunk n hn X) (chunk n hn Y) (chunk n hn Z) (chunk n hn D)) Q))
    ⊢ wp frame (wpE (defs₀ (F := F)) 𝒱 (c : Thread nD τ) bd) E
        (chunkProg arg0 arg1 arg2 arg7 fx fy fz n hn k) Q := by
  have h := chunk_wp 𝒱 c bd E arg0 arg1 arg2 arg7 fx fy fz n hn X Y Z (mix n D (fullDist fx fy fz X Y Z D)) k Q
  rw [chunk_mix, newDist_chunk, cast128, shapeCast_self, put_mix] at h
  exact h

/-- A run of chunks leaves the distances done that far and hands on the accumulator. -/
theorem chunks_wp {β : Type} (𝒱 : Variants) (c : Dev nD) (bd : Option 𝒱.V) (E : Set ℕ)
    (arg0 arg1 arg2 arg7 : Memref sig .tc .vmem S8x16384 .f32)
    (fx fy fz : FVec F S8x1 .f32) (X Y Z D : Vec F S8x16384 .f32)
    (k : Acc F → Prog (TpuEff nD τ sig (Elt F) Λ₀ .tc) β) (Q : β → sProp 𝕄) :
    ∀ (n i : ℕ) (h : i + n ≤ 128) (a : Acc F),
    iprop(Coords c arg0 arg1 arg2 X Y Z ∗ owns (c : Thread nD τ) arg7 fullShare (mix i D (fullDist fx fy fz X Y Z D)) ∗
      (iprop(Coords c arg0 arg1 arg2 X Y Z ∗ owns (c : Thread nD τ) arg7 fullShare
          (mix (i + n) D (fullDist fx fy fz X Y Z D))) -∗
        wp frame (wpE (defs₀ (F := F)) 𝒱 (c : Thread nD τ) bd) E (k (accFold fx fy fz X Y Z D n i h a)) Q))
    ⊢ wp frame (wpE (defs₀ (F := F)) 𝒱 (c : Thread nD τ) bd) E
        (chunksProg arg0 arg1 arg2 arg7 fx fy fz k n i h a) Q
  | 0, i, h, a => by
    iintro ⟨HC, H7, Hk⟩
    unfold chunksProg accFold
    iapply Hk
    isplitl [HC]; · iexact HC
    iexact H7
  | n + 1, i, h, a => by
    iintro ⟨HC, H7, Hk⟩
    unfold chunksProg accFold
    have hi : i < 128 := by omega
    have hn : i + 1 + n ≤ 128 := by omega
    iapply (chunk_wp_mix 𝒱 c bd E arg0 arg1 arg2 arg7 fx fy fz i hi X Y Z D _ Q)
    isplitl [HC]; · iexact HC
    isplitl [H7]; · iexact H7
    iintro ⟨HC, H7⟩
    iapply (chunks_wp 𝒱 c bd E arg0 arg1 arg2 arg7 fx fy fz X Y Z D k Q n (i + 1) hn _)
    isplitl [HC]; · iexact HC
    isplitl [H7]; · iexact H7
    rw [show i + 1 + n = i + (n + 1) by omega]
    iexact Hk

/-- A group of 64 chunks. -/
theorem group_wp {β : Type} (𝒱 : Variants) (c : Dev nD) (bd : Option 𝒱.V) (E : Set ℕ)
    (arg0 arg1 arg2 arg7 : Memref sig .tc .vmem S8x16384 .f32)
    (fx fy fz : FVec F S8x1 .f32) (X Y Z D : Vec F S8x16384 .f32)
    (k : Acc F → Prog (TpuEff nD τ sig (Elt F) Λ₀ .tc) β) (Q : β → sProp 𝕄) (i : ℕ) (h : i + 64 ≤ 128) :
    iprop(Coords c arg0 arg1 arg2 X Y Z ∗ owns (c : Thread nD τ) arg7 fullShare (mix i D (fullDist fx fy fz X Y Z D)) ∗
      (iprop(Coords c arg0 arg1 arg2 X Y Z ∗ owns (c : Thread nD τ) arg7 fullShare
          (mix (i + 64) D (fullDist fx fy fz X Y Z D))) -∗
        wp frame (wpE (defs₀ (F := F)) 𝒱 (c : Thread nD τ) bd) E (k (groupAcc fx fy fz X Y Z D i h)) Q))
    ⊢ wp frame (wpE (defs₀ (F := F)) 𝒱 (c : Thread nD τ) bd) E
        (groupProg arg0 arg1 arg2 arg7 fx fy fz i h k) Q := by
  iintro ⟨HC, H7, Hk⟩
  unfold groupProg groupAcc
  have hi : i < 128 := by omega
  have hn : i + 1 + 63 ≤ 128 := by omega
  iapply (chunk_wp_mix 𝒱 c bd E arg0 arg1 arg2 arg7 fx fy fz i hi X Y Z D _ Q)
  isplitl [HC]; · iexact HC
  isplitl [H7]; · iexact H7
  iintro ⟨HC, H7⟩
  iapply (chunks_wp 𝒱 c bd E arg0 arg1 arg2 arg7 fx fy fz X Y Z D k Q 63 (i + 1) hn _)
  isplitl [HC]; · iexact HC
  isplitl [H7]; · iexact H7
  rw [show i + 1 + 63 = i + 64 by omega]
  iexact Hk

end Cert.Fps
-- ==== Proof.Fps.Trip.lean ====
/- What one trip of the sampling loop does to the buffers. -/
module

public import proofs.«01_k».proof.Proof.Fps.Chunk

@[expose] public section

noncomputable section

namespace Cert.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What an output holds after the flush of trip `k`: the gathered block over its window, on a block's last trip. -/
def flushed {η : EltTy} (k : Fin k0_t1_loop.trips) (O : Vec F S8x2048 η) (w : Vec F S8x128 η) : Vec F S8x2048 η :=
  if k0_cond1 k = 1#1 then VecWindow.put O (k0_off1 k) S8x128.size w else O

/-- The four outputs, held at their contents. -/
abbrev Outs (c : Dev nD) (arg3 : Memref sig .tc .vmem S8x2048 .i32) (arg4 arg5 arg6 : Memref sig .tc .vmem S8x2048 .f32)
    (O3 : Vec F S8x2048 .i32) (O4 O5 O6 : Vec F S8x2048 .f32) : sProp 𝕄 :=
  iprop(owns (c : Thread nD τ) arg3 fullShare O3 ∗ owns (c : Thread nD τ) arg4 fullShare O4 ∗
    owns (c : Thread nD τ) arg5 fullShare O5 ∗ owns (c : Thread nD τ) arg6 fullShare O6)

/-- The flush writes the gathered block over its window of each output, on a block's last trip. -/
theorem flush_wp (𝒱 : Variants) (c : Dev nD) (bd : Option 𝒱.V) (E : Set ℕ)
    (arg3 : Memref sig .tc .vmem S8x2048 .i32) (arg4 arg5 arg6 : Memref sig .tc .vmem S8x2048 .f32)
    (O3 : Vec F S8x2048 .i32) (O4 O5 O6 : Vec F S8x2048 .f32)
    (k : Fin k0_t1_loop.trips) (s : Carry F) (Q : Carry F → sProp 𝕄) :
    iprop(Outs c arg3 arg4 arg5 arg6 O3 O4 O5 O6 ∗
      (Outs c arg3 arg4 arg5 arg6 (flushed (F := F) k O3 s.1) (flushed k O4 s.2.1) (flushed k O5 s.2.2.1)
        (flushed k O6 s.2.2.2.1) -∗ Q s))
    ⊢ wp frame (wpE (defs₀ (F := F)) 𝒱 (c : Thread nD τ) bd) E
        (flushProg arg3 arg4 arg5 arg6 k s) Q := by
  unfold flushProg flushed
  by_cases h : k0_cond1 k = 1#1
  · simp only [dif_pos h, if_pos h]
    unfold Outs owns
    iintro ⟨⟨⟨%f3, %hf3, H3⟩, ⟨%f4, %hf4, H4⟩, ⟨%f5, %hf5, H5⟩, ⟨%f6, %hf6, H6⟩⟩, Hk⟩
    subst hf3; subst hf4; subst hf5; subst hf6
    sl_exec
    rw [wp_ret]
    imodintro
    iapply Hk
    isplitl [H3]
    · iexists _; isplitr; swap; · iexact H3
      ipureintro
      rw [View.read_writes_cons_put _ _ _ _ _ rfl, View.writes_nil]
    isplitl [H4]
    · iexists _; isplitr; swap; · iexact H4
      ipureintro
      rw [View.read_writes_cons_put _ _ _ _ _ rfl, View.writes_nil]
    isplitl [H5]
    · iexists _; isplitr; swap; · iexact H5
      ipureintro
      rw [View.read_writes_cons_put _ _ _ _ _ rfl, View.writes_nil]
    iexists _; isplitr; swap; · iexact H6
    ipureintro
    rw [View.read_writes_cons_put _ _ _ _ _ rfl, View.writes_nil]
  · simp only [dif_neg h, if_neg h]
    iintro ⟨HO, Hk⟩
    rw [wp_ret]
    imodintro
    iapply Hk
    iexact HO

/-- The two groups' merged best of a trip. -/
def tripAcc (fx fy fz : FVec F S8x1 .f32) (X Y Z D : Vec F S8x16384 .f32) : Acc F :=
  mergeAcc (groupAcc fx fy fz X Y Z D 0 (by omega)) (groupAcc fx fy fz X Y Z D 64 (by omega))

/-- A trip computes every point's new distance, merges the groups' bests and flushes. -/
theorem trip_wp (𝒱 : Variants) (c : Dev nD) (bd : Option 𝒱.V) (E : Set ℕ)
    (arg0 arg1 arg2 : Memref sig .tc .vmem S8x16384 .f32) (arg3 : Memref sig .tc .vmem S8x2048 .i32)
    (arg4 arg5 arg6 : Memref sig .tc .vmem S8x2048 .f32) (arg7 : Memref sig .tc .vmem S8x16384 .f32)
    (X Y Z D : Vec F S8x16384 .f32)
    (O3 : Vec F S8x2048 .i32) (O4 O5 O6 : Vec F S8x2048 .f32) (v4 : IVec S8x128 32)
    (k : Fin k0_t1_loop.trips) (s t : Carry F)
    (ht : t = finish v4 k s (tripAcc s.2.2.2.2.1 s.2.2.2.2.2.1 s.2.2.2.2.2.2 X Y Z D))
    (Q : Carry F → sProp 𝕄) :
    iprop(Coords c arg0 arg1 arg2 X Y Z ∗ owns (c : Thread nD τ) arg7 fullShare D ∗
      Outs c arg3 arg4 arg5 arg6 O3 O4 O5 O6 ∗
      (iprop(Coords c arg0 arg1 arg2 X Y Z ∗
          owns (c : Thread nD τ) arg7 fullShare (fullDist s.2.2.2.2.1 s.2.2.2.2.2.1 s.2.2.2.2.2.2 X Y Z D) ∗
          Outs c arg3 arg4 arg5 arg6 (flushed (F := F) k O3 t.1) (flushed k O4 t.2.1) (flushed k O5 t.2.2.1)
            (flushed k O6 t.2.2.2.1)) -∗ Q t))
    ⊢ wp frame (wpE (defs₀ (F := F)) 𝒱 (c : Thread nD τ) bd) E
        (tripProg arg0 arg1 arg2 arg3 arg4 arg5 arg6 arg7 v4 k s) Q := by
  unfold tripAcc at ht
  subst ht
  have h0 : 0 + 64 ≤ 128 := by omega
  have h1 : 64 + 64 ≤ 128 := by omega
  have e0 := mix_zero D (fullDist s.2.2.2.2.1 s.2.2.2.2.2.1 s.2.2.2.2.2.2 X Y Z D)
  have e1 : owns (c : Thread nD τ) arg7 fullShare
        (mix (64 + 64) D (fullDist s.2.2.2.2.1 s.2.2.2.2.2.1 s.2.2.2.2.2.2 X Y Z D))
      = (owns (c : Thread nD τ) arg7 fullShare (fullDist s.2.2.2.2.1 s.2.2.2.2.2.1 s.2.2.2.2.2.2 X Y Z D) : sProp 𝕄) :=
    congrArg _ (mix_all D _)
  iintro ⟨HC, H7, HO, Hk⟩
  unfold tripProg
  iapply (group_wp 𝒱 c bd E arg0 arg1 arg2 arg7 _ _ _ X Y Z D _ Q 0 h0)
  isplitl [HC]; · iexact HC
  isplitl [H7]
  · rw [e0]; iexact H7
  iintro ⟨HC, H7⟩
  iapply (group_wp 𝒱 c bd E arg0 arg1 arg2 arg7 _ _ _ X Y Z D _ Q 64 h1)
  isplitl [HC]; · iexact HC
  isplitl [H7]; · iexact H7
  iintro ⟨HC, H7⟩
  iapply (flush_wp 𝒱 c bd E arg3 arg4 arg5 arg6 O3 O4 O5 O6 k _ Q)
  isplitl [HO]; · iexact HO
  iintro HO
  iapply Hk
  isplitl [HC]; · iexact HC
  isplitl [H7]
  · rw [← e1]; iexact H7
  iexact HO

end Cert.Fps
-- ==== Proof.Fps.Loop.lean ====
/- The kernel's sequence of samples, and the sampling loop's invariant over it. -/
module

public import proofs.«01_k».proof.Proof.Fps.Trip

@[expose] public section

noncomputable section

namespace Cert.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix1 ix2 ix3)

variable {F : FTy → Type} [FloatOps F]

local notation "𝕄" => MT nD τ sig Unit (Elt F) ℕ (UR sig nD τ) ℕ

/-- The lane numbers. -/
abbrev lanes : IVec S8x128 32 := iota .tc S8x128 32 [1] iota_S8x128_d1_w32

/-- What the kernel holds before a trip: the stored distances, and the current sample's number and coordinates. -/
structure St (F : FTy → Type) where
  D : Vec F S8x16384 .f32
  i : IVec S8x1 32
  x : FVec F S8x1 .f32
  y : FVec F S8x1 .f32
  z : FVec F S8x1 .f32

/-- The first column of a coordinate array. -/
def firstCol (X : Vec F S8x16384 .f32) : FVec F S8x1 .f32 := fun j => X (ix2 (j 0) 0)

/-- Before the first trip: infinite distances and point 0. -/
def startSt (X Y Z : Vec F S8x16384 .f32) : St F :=
  ⟨k0_pay1, broadcast S8x1 0#32, firstCol X, firstCol Y, firstCol Z⟩

/-- One trip: the new distances, and the point chosen at the largest of them. -/
def nextSt (X Y Z : Vec F S8x16384 .f32) (s : St F) : St F :=
  ⟨fullDist s.x s.y s.z X Y Z s.D,
   pickIdx lanes (tripAcc s.x s.y s.z X Y Z s.D),
   pickCoord lanes (tripAcc s.x s.y s.z X Y Z s.D) (tripAcc s.x s.y s.z X Y Z s.D).x,
   pickCoord lanes (tripAcc s.x s.y s.z X Y Z s.D) (tripAcc s.x s.y s.z X Y Z s.D).y,
   pickCoord lanes (tripAcc s.x s.y s.z X Y Z s.D) (tripAcc s.x s.y s.z X Y Z s.D).z⟩

/-- The kernel's state before trip `n`. -/
def seq (X Y Z : Vec F S8x16384 .f32) : ℕ → St F
  | 0 => startSt X Y Z
  | n + 1 => nextSt X Y Z (seq X Y Z n)

/-- A block of 128 samples holds, before trip `k`, the samples of its block up to the current one. -/
def Gathered {α : Type} (k : ℕ) (s : ℕ → S8x1.Idx → α) (buf : S8x128.Idx → α) : Prop :=
  ∀ i : S8x128.Idx, (i 1).val ≤ k % 128 → buf i = s (128 * (k / 128) + (i 1).val) (ix2 (i 0) 0)

/-- An output holds, before trip `k`, the samples of the blocks completed. -/
def Written {α : Type} (k : ℕ) (s : ℕ → S8x1.Idx → α) (O : S8x2048.Idx → α) : Prop :=
  ∀ i : S8x2048.Idx, (i 1).val < 128 * ((k + 1) / 128) → O i = s (i 1).val (ix2 (i 0) 0)

/-- The loop makes 2048 trips. -/
theorem trips_eq : k0_t1_loop.trips = 2048 := by decide +kernel

/-- The lane of a trip's sample is the next trip's number modulo 128. -/
theorem laneWord : ∀ k : Fin k0_t1_loop.trips,
    Scalar.remsi (Scalar.addi (Scf.iv 0#32 1#32 k.val) 1#32) 128#32 = BitVec.ofNat 32 ((k.val + 1) % 128) := by
  decide +kernel

/-- A trip flushes where its sample fills the last lane. -/
theorem cond_iff : ∀ k : Fin k0_t1_loop.trips, k0_cond1 k = 1#1 ↔ (k.val + 1) % 128 = 127 := by decide +kernel

/-- A flush goes to the block of its sample. -/
theorem off_eq : ∀ k : Fin k0_t1_loop.trips, k0_cond1 k = 1#1 → k0_off1 k = ![0, 128 * ((k.val + 1) / 128)] := by
  decide +kernel

/-- The mask picks the lane of the next sample. -/
theorem laneMask_iff (k : Fin k0_t1_loop.trips) (i : S8x128.Idx) :
    laneMask lanes k i = 1#1 ↔ (i 1).val = (k.val + 1) % 128 := by
  have h : laneMask lanes k i = IntOp.cmpi .eq (BitVec.ofNat 32 (i 1).val) (BitVec.ofNat 32 ((k.val + 1) % 128)) := by
    unfold laneMask
    rw [laneWord k]
    show IntOp.cmpi .eq (BitVec.ofNat 32 (0 * 128 + (i 1).val)) _ = _
    rw [Nat.zero_mul, Nat.zero_add]
    rfl
  rw [h]
  have hi : (i 1).val < 128 := (i 1).isLt
  have hk : (k.val + 1) % 128 < 128 := Nat.mod_lt _ (by omega)
  exact Idealize.ShloMosaic.WordCmp.cmpi_eq_ofNat_eq_one_iff (w := 32) (by omega) (by omega)

/-- Writing the next sample into its lane gathers one sample more. -/
theorem gathered_succ {α : Type} (k : Fin k0_t1_loop.trips) (s : ℕ → S8x1.Idx → α) (buf : S8x128.Idx → α)
    (h : Gathered k.val s buf) :
    Gathered (k.val + 1) s (select (laneMask lanes k)
      (broadcastTo S8x128 (shapeCast S8x1 (s (k.val + 1)) shapeCasts_S8x1_S8x1) broadcasts_S8x1_S8x128) buf) := by
  intro i hi
  rw [shapeCast_self]
  show (if laneMask lanes k i = 1#1 then broadcastTo S8x128 (s (k.val + 1)) broadcasts_S8x1_S8x128 i else buf i) = _
  rw [broadcastCol]
  by_cases e : (i 1).val = (k.val + 1) % 128
  · rw [if_pos ((laneMask_iff k i).2 e), show 128 * ((k.val + 1) / 128) + (i 1).val = k.val + 1 by omega]
  · rw [if_neg (fun c => e ((laneMask_iff k i).1 c)), h i (by omega)]
    congr 2
    omega

/-- The flush completes a block exactly when the block is full. -/
theorem written_flushed {η : EltTy} (k : Fin k0_t1_loop.trips) (s : ℕ → Vec F S8x1 η) (O : Vec F S8x2048 η)
    (w : Vec F S8x128 η) (hO : Written k.val s O) (hw : Gathered (k.val + 1) s w) :
    Written (k.val + 1) s (flushed (F := F) k O w) := by
  intro i hi
  unfold flushed
  by_cases hc : k0_cond1 k = 1#1
  · have hk := (cond_iff k).1 hc
    rw [if_pos hc, off_eq k hc]
    unfold VecWindow.put
    split
    · rename_i h
      have h1 : 128 * ((k.val + 1) / 128) ≤ (i 1).val ∧ (i 1).val < 128 * ((k.val + 1) / 128) + 128 := h 1
      rw [hw _ (by show (i 1).val - 128 * ((k.val + 1) / 128) ≤ _; omega)]
      have e1 : 128 * ((k.val + 1) / 128) + ((Rect.unitLocal i h) 1).val = (i 1).val := by
        show 128 * ((k.val + 1) / 128) + ((i 1).val - 128 * ((k.val + 1) / 128)) = _
        omega
      rw [e1]
      rfl
    · rename_i h
      have h' : ¬ (128 * ((k.val + 1) / 128) ≤ (i 1).val ∧ (i 1).val < 128 * ((k.val + 1) / 128) + 128) := by
        intro h'
        refine h fun a => ?_
        fin_cases a
        · exact ⟨Nat.zero_le _, by have : (i 0).val < 8 := (i 0).isLt; show (i 0).val < 0 + 8; omega⟩
        · exact h'
      exact hO i (by omega)
  · have hk : ¬ (k.val + 1) % 128 = 127 := fun e => hc ((cond_iff k).2 e)
    rw [if_neg hc]
    exact hO i (by omega)

/-- The carried values before trip `k`: the gathered block and the current centroid. -/
def Carried (X Y Z : Vec F S8x16384 .f32) (k : ℕ) (s : Carry F) : Prop :=
  Gathered k (fun n => (seq X Y Z n).i) s.1 ∧ Gathered k (fun n => (seq X Y Z n).x) s.2.1 ∧
  Gathered k (fun n => (seq X Y Z n).y) s.2.2.1 ∧ Gathered k (fun n => (seq X Y Z n).z) s.2.2.2.1 ∧
  s.2.2.2.2.1 = (seq X Y Z k).x ∧ s.2.2.2.2.2.1 = (seq X Y Z k).y ∧ s.2.2.2.2.2.2 = (seq X Y Z k).z

/-- The outputs before trip `k`: the completed blocks of samples. -/
def Done (X Y Z : Vec F S8x16384 .f32) (k : ℕ) (O3 : Vec F S8x2048 .i32) (O4 O5 O6 : Vec F S8x2048 .f32) : Prop :=
  Written k (fun n => (seq X Y Z n).i) O3 ∧ Written k (fun n => (seq X Y Z n).x) O4 ∧
  Written k (fun n => (seq X Y Z n).y) O5 ∧ Written k (fun n => (seq X Y Z n).z) O6

/-- The loop's invariant. -/
def inv (X Y Z : Vec F S8x16384 .f32) (c : Dev nD)
    (arg0 arg1 arg2 : Memref sig .tc .vmem S8x16384 .f32) (arg3 : Memref sig .tc .vmem S8x2048 .i32)
    (arg4 arg5 arg6 : Memref sig .tc .vmem S8x2048 .f32) (arg7 : Memref sig .tc .vmem S8x16384 .f32)
    (k : ℕ) (s : Carry F) : sProp 𝕄 :=
  iprop(∃ O3 O4 O5 O6, ⌜Carried X Y Z k s ∧ Done X Y Z k O3 O4 O5 O6⌝ ∗ Coords c arg0 arg1 arg2 X Y Z ∗
    owns (c : Thread nD τ) arg7 fullShare (seq X Y Z k).D ∗ Outs c arg3 arg4 arg5 arg6 O3 O4 O5 O6)

/-- One trip keeps what is carried. -/
theorem carried_step (X Y Z : Vec F S8x16384 .f32) (k : Fin k0_t1_loop.trips) (s : Carry F)
    (h : Carried X Y Z k.val s) :
    Carried X Y Z (k.val + 1) (finish lanes k s
      (tripAcc s.2.2.2.2.1 s.2.2.2.2.2.1 s.2.2.2.2.2.2 X Y Z (seq X Y Z k.val).D)) := by
  obtain ⟨h1, h2, h3, h4, h5, h6, h7⟩ := h
  rw [h5, h6, h7]
  exact ⟨gathered_succ k _ _ h1, gathered_succ k _ _ h2, gathered_succ k _ _ h3, gathered_succ k _ _ h4, rfl, rfl, rfl⟩

/-- One trip keeps the invariant. -/
theorem inv_step (X Y Z : Vec F S8x16384 .f32) (𝒱 : Variants) (c : Dev nD) (bd : Option 𝒱.V) (E : Set ℕ)
    (arg0 arg1 arg2 : Memref sig .tc .vmem S8x16384 .f32) (arg3 : Memref sig .tc .vmem S8x2048 .i32)
    (arg4 arg5 arg6 : Memref sig .tc .vmem S8x2048 .f32) (arg7 : Memref sig .tc .vmem S8x16384 .f32)
    (k : Fin k0_t1_loop.trips) (s : Carry F) :
    inv X Y Z c arg0 arg1 arg2 arg3 arg4 arg5 arg6 arg7 k.val s
    ⊢ wp frame (wpE (defs₀ (F := F)) 𝒱 (c : Thread nD τ) bd) E
        (tripProg arg0 arg1 arg2 arg3 arg4 arg5 arg6 arg7 lanes k s)
        (inv X Y Z c arg0 arg1 arg2 arg3 arg4 arg5 arg6 arg7 (k.val + 1)) := by
  unfold inv
  iintro ⟨%O3, %O4, %O5, %O6, %h, HC, H7, HO⟩
  obtain ⟨hc, hd1, hd2, hd3, hd4⟩ := h
  have hs := carried_step X Y Z k s hc
  iapply (trip_wp 𝒱 c bd E arg0 arg1 arg2 arg3 arg4 arg5 arg6 arg7 X Y Z _ O3 O4 O5 O6 lanes k s _ rfl)
  isplitl [HC]; · iexact HC
  isplitl [H7]; · iexact H7
  isplitl [HO]; · iexact HO
  iintro ⟨HC, H7, HO⟩
  iexists _; iexists _; iexists _; iexists _
  isplitr
  swap
  · isplitl [HC]; · iexact HC
    isplitl [H7]
    swap; · iexact HO
    rw [hc.2.2.2.2.1, hc.2.2.2.2.2.1, hc.2.2.2.2.2.2]
    iexact H7
  ipureintro
  exact ⟨hs, written_flushed k _ O3 _ hd1 hs.1, written_flushed k _ O4 _ hd2 hs.2.1,
    written_flushed k _ O5 _ hd3 hs.2.2.1, written_flushed k _ O6 _ hd4 hs.2.2.2.1⟩

/-- The kernel's samples: the whole index array and the three whole coordinate arrays. -/
def outI (X Y Z : Vec F S8x16384 .f32) : Vec F S8x2048 .i32 := fun i => (seq X Y Z (i 1).val).i (ix2 (i 0) 0)
/-- The samples' first coordinates. -/
def outX (X Y Z : Vec F S8x16384 .f32) : Vec F S8x2048 .f32 := fun i => (seq X Y Z (i 1).val).x (ix2 (i 0) 0)
/-- The samples' second coordinates. -/
def outY (X Y Z : Vec F S8x16384 .f32) : Vec F S8x2048 .f32 := fun i => (seq X Y Z (i 1).val).y (ix2 (i 0) 0)
/-- The samples' third coordinates. -/
def outZ (X Y Z : Vec F S8x16384 .f32) : Vec F S8x2048 .f32 := fun i => (seq X Y Z (i 1).val).z (ix2 (i 0) 0)

/-- After the last trip the outputs hold every sample. -/
theorem done_all (X Y Z : Vec F S8x16384 .f32) (O3 : Vec F S8x2048 .i32) (O4 O5 O6 : Vec F S8x2048 .f32)
    (h : Done X Y Z 2048 O3 O4 O5 O6) : O3 = outI X Y Z ∧ O4 = outX X Y Z ∧ O5 = outY X Y Z ∧ O6 = outZ X Y Z :=
  ⟨funext fun i => h.1 i (i 1).isLt, funext fun i => h.2.1 i (i 1).isLt,
   funext fun i => h.2.2.1 i (i 1).isLt, funext fun i => h.2.2.2 i (i 1).isLt⟩

/-- Before the first trip the gathered blocks hold point 0. -/
theorem carried_start (X Y Z : Vec F S8x16384 .f32) :
    Carried X Y Z 0 (k0_pay2, k0_pay5 (firstCol X), k0_pay6 (firstCol Y), k0_pay7 (firstCol Z),
      k0_pay8 (firstCol X), k0_pay9 (firstCol Y), k0_pay10 (firstCol Z)) := by
  have lane0 : ∀ (f : FVec F S8x1 .f32) (i : S8x128.Idx), (i 1).val ≤ 0 % 128 →
      select k0_pay3 (broadcastTo S8x128 f broadcasts_S8x1_S8x128) (k0_pay4 (F := F)) i = f (ix2 (i 0) 0) := by
    intro f i hi
    have hm : k0_pay3 i = 1#1 := by
      show IntOp.cmpi .eq (BitVec.ofNat 32 (0 * 128 + (i 1).val)) 0#32 = 1#1
      rw [show (i 1).val = 0 by omega]
      rfl
    show (if k0_pay3 i = 1#1 then broadcastTo S8x128 f broadcasts_S8x1_S8x128 i else k0_pay4 i) = _
    rw [if_pos hm, broadcastCol]
  have h0 : ∀ i : S8x128.Idx, (i 1).val ≤ 0 % 128 → 128 * (0 / 128) + (i 1).val = 0 := fun i hi => by omega
  refine ⟨fun i hi => ?_, fun i hi => ?_, fun i hi => ?_, fun i hi => ?_, ?_, ?_, ?_⟩
  · rw [h0 i hi]; rfl
  · rw [h0 i hi]
    show k0_pay5 (firstCol X) i = _
    unfold k0_pay5
    simp only [shapeCast_self]
    exact lane0 _ i hi
  · rw [h0 i hi]
    show k0_pay6 (firstCol Y) i = _
    unfold k0_pay6
    simp only [shapeCast_self]
    exact lane0 _ i hi
  · rw [h0 i hi]
    show k0_pay7 (firstCol Z) i = _
    unfold k0_pay7
    simp only [shapeCast_self]
    exact lane0 _ i hi
  · show k0_pay8 (firstCol X) = _
    unfold k0_pay8
    simp only [shapeCast_self]
    rfl
  · show k0_pay9 (firstCol Y) = _
    unfold k0_pay9
    simp only [shapeCast_self]
    rfl
  · show k0_pay10 (firstCol Z) = _
    unfold k0_pay10
    simp only [shapeCast_self]
    rfl

end Cert.Fps
-- ==== Proof.Fps.Argmax.lean ====
/- The kernel's choice of the next point: the first of the points at the largest distance. -/
module

public import proofs.«01_k».proof.Proof.Fps.Spec
public import proofs.«01_k».proof.Proof.Fps.Loop
public import Idealize.ShloMosaic.Lib.Pipeline.ValueKit
public import Idealize.ShloMosaic.Lib.Pointwise
public import Idealize.ShloMosaic.Lib.WordCmp

@[expose] public section

noncomputable section

namespace Cert.Fps

open Idealize.ShloMosaic
open Cert.KernelIdeal Cert.KernelIdeal.Gen

/-- Point `n` of batch `b`. -/
def cell (b : Fin 8) (n : ℕ) : S8x16384.Idx := ValueIdx.ix2 b (Fin.ofNat 16384 n)

/-- A chunk's element is the rows' at its point number. -/
theorem chunk_at (c : ℕ) (hc : c < 128) (X : Vec Ideal S8x16384 .f32) (b : Fin 8) (l : Fin 128) :
    chunk c hc X (ValueIdx.ix2 b l) = X (cell b (128 * c + l.val)) := by
  show X _ = X _
  congr 1
  funext a
  fin_cases a
  · exact Fin.ext (by show 0 + 1 * b.val = b.val; omega)
  · exact Fin.ext (by show 128 * c + 1 * l.val = (128 * c + l.val) % 16384; omega)

/-- Per batch and lane, the accumulator holds the best of the chunks `lo ≤ k < hi` at that lane. -/
def Holds (X Y Z D : Vec Ideal S8x16384 .f32) (lo hi : ℕ) (a : Acc Ideal) : Prop :=
  ∀ (b : Fin 8) (l : Fin 128), ∃ k, Best (fun k => D (cell b (128 * k + l.val))) lo hi k ∧
    a.dist (ValueIdx.ix2 b l) = D (cell b (128 * k + l.val)) ∧
    a.chunk (ValueIdx.ix2 b l) = BitVec.ofNat 32 k ∧
    a.x (ValueIdx.ix2 b l) = X (cell b (128 * k + l.val)) ∧
    a.y (ValueIdx.ix2 b l) = Y (cell b (128 * k + l.val)) ∧
    a.z (ValueIdx.ix2 b l) = Z (cell b (128 * k + l.val))

/-- One chunk alone. -/
theorem holds_start (fx fy fz : FVec Ideal S8x1 .f32) (X Y Z D : Vec Ideal S8x16384 .f32) (c : ℕ) (hc : c < 128) :
    Holds X Y Z (fullDist fx fy fz X Y Z D) c (c + 1)
      (startAcc c fx fy fz (chunk c hc X) (chunk c hc Y) (chunk c hc Z) (chunk c hc D)) := by
  intro b l
  refine ⟨c, Best.one _ c, ?_, rfl, ?_, ?_, ?_⟩
  · show newDist fx fy fz _ _ _ _ _ = _
    rw [newDist_chunk, chunk_at]
  · simp only [startAcc, cast128, shapeCast_self, chunk_at]
  · simp only [startAcc, cast128, shapeCast_self, chunk_at]
  · simp only [startAcc, cast128, shapeCast_self, chunk_at]

/-- Choosing by a strict comparison. -/
theorem select_ogt {α : Type} (u v : FVec Ideal S8x128 .f32) (p q : S8x128.Idx → α) (i : S8x128.Idx) :
    select (cmpf .ogt u v) p q i = if v i < u i then p i else q i := by
  show (if Ideal.cmp .ogt (u i) (v i) = 1 then p i else q i) = _
  by_cases h : v i < u i
  · rw [if_pos h, if_pos ((Ideal.cmp_ogt_eq_one _ _).2 h)]
  · rw [if_neg h, if_neg (fun c => h ((Ideal.cmp_ogt_eq_one _ _).1 c))]

/-- Two adjoining ranges merged. -/
theorem holds_merge {X Y Z D : Vec Ideal S8x16384 .f32} {lo mid hi : ℕ} {a a' : Acc Ideal}
    (h : Holds X Y Z D lo mid a) (h' : Holds X Y Z D mid hi a') : Holds X Y Z D lo hi (mergeAcc a a') := by
  intro b l
  obtain ⟨k, hk, hd, hc, hx, hy, hz⟩ := h b l
  obtain ⟨k', hk', hd', hc', hx', hy', hz'⟩ := h' b l
  simp only [mergeAcc, select_ogt]
  have hm : maximumf a'.dist a.dist (ValueIdx.ix2 b l) = max (a'.dist (ValueIdx.ix2 b l)) (a.dist (ValueIdx.ix2 b l)) := rfl
  rw [hm]
  by_cases e : a.dist (ValueIdx.ix2 b l) < a'.dist (ValueIdx.ix2 b l)
  · simp only [if_pos e, max_eq_left e.le]
    rw [hd, hd'] at e
    exact ⟨k', hk.right hk' e, hd', hc', hx', hy', hz'⟩
  · simp only [if_neg e, max_eq_right (not_lt.1 e)]
    rw [hd, hd'] at e
    exact ⟨k, hk.left hk' e, hd, hc, hx, hy, hz⟩

/-- The fold over further chunks extends the range. -/
theorem holds_fold (fx fy fz : FVec Ideal S8x1 .f32) (X Y Z D : Vec Ideal S8x16384 .f32) (lo : ℕ) :
    ∀ (n c : ℕ) (h : c + n ≤ 128) (a : Acc Ideal), Holds X Y Z (fullDist fx fy fz X Y Z D) lo c a →
      Holds X Y Z (fullDist fx fy fz X Y Z D) lo (c + n) (accFold fx fy fz X Y Z D n c h a)
  | 0, c, h, a, ha => ha
  | n + 1, c, h, a, ha => by
    rw [show c + (n + 1) = c + 1 + n by omega]
    exact holds_fold fx fy fz X Y Z D lo n (c + 1) (by omega) _
      (holds_merge ha (holds_start fx fy fz X Y Z D c (by omega)))

/-- A trip's accumulator holds the best of all the chunks. -/
theorem holds_trip (fx fy fz : FVec Ideal S8x1 .f32) (X Y Z D : Vec Ideal S8x16384 .f32) :
    Holds X Y Z (fullDist fx fy fz X Y Z D) 0 128 (tripAcc fx fy fz X Y Z D) :=
  holds_merge
    (holds_fold fx fy fz X Y Z D 0 63 1 (by omega) _ (holds_start fx fy fz X Y Z D 0 (by omega)))
    (holds_fold fx fy fz X Y Z D 64 63 65 (by omega) _ (holds_start fx fy fz X Y Z D 64 (by omega)))

end Cert.Fps
-- ==== Proof.Fps.Pick.lean ====
/- The kernel's next point and its coordinates, from the best of every lane. -/
module

public import proofs.«01_k».proof.Proof.Fps.Argmax

@[expose] public section

noncomputable section

namespace Cert.Fps

open Idealize.ShloMosaic
open Cert.KernelIdeal Cert.KernelIdeal.Gen

/-- A column's entry is the list's. -/
theorem colCast {α : Type} (v : S8.Idx → α) (b : Fin 8) :
    shapeCast S8x1 v shapeCasts_S8_S8x1 (ValueIdx.ix2 b 0) = v (ValueIdx.ix1 b) := by
  refine shapeCast_apply v _ _ _ ?_
  rw [rowMajor_val1, rowMajor_val2 _ 1 rfl]
  show b.val = b.val * 1 + 0
  omega

/-- The source index of lane `l` of a row's reduction. -/
theorem laneLift (b : Fin 8) (l : Fin 128) :
    reduces_S8x128_S8.lift (ValueIdx.ix1 b) l = ValueIdx.ix2 b l := by
  funext a
  fin_cases a <;> rfl

/-- The best of all points is the best of its lane. -/
theorem lane_best {f : ℕ → EReal} {p : ℕ} (h : Best f 0 16384 p) :
    Best (fun k => f (128 * k + p % 128)) 0 128 (p / 128) := by
  have hp := h.2.1
  refine ⟨Nat.zero_le _, by omega, fun n _ hn => ?_⟩
  have e : 128 * (p / 128) + p % 128 = p := Nat.div_add_mod p 128
  show f _ ≤ f (128 * (p / 128) + p % 128) ∧ (_ → f _ < f (128 * (p / 128) + p % 128))
  rw [e]
  have := h.2.2 (128 * n + p % 128) (Nat.zero_le _) (by omega)
  exact ⟨this.1, fun hlt => this.2 (by omega)⟩

/-- A fold of the signed minimum: at most the words folded over, and no less than a bound below all of them. -/
theorem fold_minsi {ι : Type} [DecidableEq ι] (s : Finset ι) (f : ι → BitVec 32) (init p : BitVec 32)
    (hinit : p.toInt ≤ init.toInt) (h : ∀ i ∈ s, p.toInt ≤ (f i).toInt) (i : ι) (hi : i ∈ s) (e : f i = p) :
    s.fold IntOp.minsi init f = p := by
  have key : ∀ c : BitVec 32, c.toInt ≤ (s.fold IntOp.minsi init f).toInt ↔
      c.toInt ≤ init.toInt ∧ ∀ x ∈ s, c.toInt ≤ (f x).toInt := fun c =>
    Finset.fold_op_rel_iff_and (r := fun x y : BitVec 32 => x.toInt ≤ y.toInt) (fun {x y z} => by
      unfold IntOp.minsi
      by_cases hc : y.slt z
      · rw [if_pos hc]
        have := BitVec.slt_iff_toInt_lt.1 hc
        omega
      · rw [if_neg hc]
        have : ¬ y.toInt < z.toInt := fun h => hc (BitVec.slt_iff_toInt_lt.2 h)
        omega)
  have h1 := (key p).2 ⟨hinit, h⟩
  have h2 := ((key (s.fold IntOp.minsi init f)).1 le_rfl).2 i hi
  rw [e] at h2
  exact BitVec.eq_of_toInt_eq (le_antisymm h2 h1)

/-- Small words in the signed order are as the numbers. -/
theorem toInt_small (n : ℕ) (h : n < 2 ^ 31) : (BitVec.ofNat 32 n).toInt = n := by
  rw [BitVec.toInt_eq_toNat_cond, BitVec.toNat_ofNat, Nat.mod_eq_of_lt (by omega), if_pos (by omega)]

variable {X Y Z D : Vec Ideal S8x16384 .f32} {a : Acc Ideal}

/-- The number that a lane's best has. -/
theorem flatIdx_at (b : Fin 8) (l : Fin 128) (k : ℕ) (h : a.chunk (ValueIdx.ix2 b l) = BitVec.ofNat 32 k) :
    flatIdx lanes a (ValueIdx.ix2 b l) = BitVec.ofNat 32 (128 * k + l.val) := by
  show a.chunk (ValueIdx.ix2 b l) * 128#32 + BitVec.ofNat 32 (0 * 128 + l.val) = _
  rw [h, Nat.zero_mul, Nat.zero_add, Nat.mul_comm 128 k, BitVec.ofNat_add, BitVec.ofNat_mul]

/-- The largest of a row's lanes is the distance of the first farthest point. -/
theorem rowMax (h : Holds X Y Z D 0 128 a) (b : Fin 8) :
    multiReduction .maximumf [1] S8 a.dist 0xFF800000#32 reduces_S8x128_S8 (.inl rfl) rfl (ValueIdx.ix1 b)
      = D (cell b (far fun n => D (cell b n))) := by
  have hp := far_best fun n => D (cell b n)
  generalize far (fun n => D (cell b n)) = p at hp
  refine Eq.trans (Ideal.multiReduction_maximumf_single _ _ _ _ _ _) ?_
  have hb : (FloatOps.ofBits .f32 0xFF800000#32 : Ideal .f32) = (⊥ : EReal) := by
    show Ideal.ofBits .f32 0xFF800000#32 = ⊥
    simp [Ideal.ofBits, Ideal.ieee]
  have key : ∀ c : EReal, Finset.fold max (FloatOps.ofBits .f32 0xFF800000#32 : Ideal .f32)
      (a.dist ∘ reduces_S8x128_S8.lift (ValueIdx.ix1 b)) Finset.univ ≤ c ↔ ∀ l : Fin 128, a.dist (ValueIdx.ix2 b l) ≤ c := by
    intro c
    rw [Finset.fold_max_le, hb]
    exact ⟨fun h l => laneLift b l ▸ h.2 l (Finset.mem_univ _), fun h => ⟨bot_le, fun l _ =>
      le_of_eq_of_le (congrArg a.dist (laneLift b l)) (h l)⟩⟩
  refine le_antisymm ((key _).2 fun l => ?_) ?_
  · obtain ⟨k, hk, hd, -⟩ := h b l
    rw [hd]
    have h1 := hk.2.1
    exact (hp.2.2 (128 * k + l.val) (Nat.zero_le _) (by have := l.isLt; omega)).1
  · obtain ⟨k, hk, hd, -⟩ := h b ⟨p % 128, Nat.mod_lt _ (by omega)⟩
    have e : k = p / 128 := hk.unique (lane_best hp)
    have := (key _).1 le_rfl ⟨p % 128, Nat.mod_lt _ (by omega)⟩
    rw [hd, e, show 128 * (p / 128) + p % 128 = p from Nat.div_add_mod p 128] at this
    exact this

/-- A lane is at the row's largest distance. -/
theorem select_oeq {α : Type} (u v : FVec Ideal S8x128 .f32) (p q : S8x128.Idx → α) (i : S8x128.Idx) :
    select (cmpf .oeq u v) p q i = if u i = v i then p i else q i := by
  show (if Ideal.cmp .oeq (u i) (v i) = 1 then p i else q i) = _
  by_cases h : u i = v i
  · rw [if_pos h, if_pos ((Ideal.cmp_oeq_eq_one _ _).2 h)]
  · rw [if_neg h, if_neg (fun c => h ((Ideal.cmp_oeq_eq_one _ _).1 c))]

/-- The number chosen is the first farthest point's. -/
theorem pickIdx_eq (h : Holds X Y Z D 0 128 a) (b : Fin 8) :
    pickIdx lanes a (ValueIdx.ix2 b 0) = BitVec.ofNat 32 (far fun n => D (cell b n)) := by
  have hm := rowMax h b
  have hp := far_best fun n => D (cell b n)
  generalize far (fun n => D (cell b n)) = p at hp hm
  have hlt := hp.2.1
  unfold pickIdx
  rw [colCast]
  refine Eq.trans (multiReductionI_eq_fold _ _ _ _ _ _) ?_
  refine Eq.trans (reduces_S8x128_S8.fold_filter_drop_single _ _ _ _) ?_
  have hv : ∀ l : Fin 128, (select (cmpf .oeq a.dist (broadcastTo S8x128 (shapeCast S8x1
        (multiReduction .maximumf [1] S8 a.dist 0xFF800000#32 reduces_S8x128_S8 (.inl rfl) rfl)
        shapeCasts_S8_S8x1) broadcasts_S8x1_S8x128))
      (flatIdx lanes a) (broadcast S8x128 16384#32) ∘ reduces_S8x128_S8.lift (ValueIdx.ix1 b)) l
      = if a.dist (ValueIdx.ix2 b l) = D (cell b p) then flatIdx lanes a (ValueIdx.ix2 b l) else 16384#32 := by
    intro l
    show select _ _ _ (reduces_S8x128_S8.lift (ValueIdx.ix1 b) l) = _
    rw [laneLift, select_oeq, broadcastCol]
    show (if _ = shapeCast S8x1 _ shapeCasts_S8_S8x1 (ValueIdx.ix2 b 0) then _ else _) = _
    rw [colCast, hm]
    rfl
  refine fold_minsi _ _ _ _ ?_ ?_ ⟨p % 128, Nat.mod_lt _ (by omega)⟩ (Finset.mem_univ _) ?_
  · rw [toInt_small _ (by omega)]
    show (p : ℤ) ≤ 2147483647
    omega
  · intro l _
    refine le_of_le_of_eq ?_ (congrArg BitVec.toInt (hv l).symm)
    rw [toInt_small _ (by omega)]
    obtain ⟨k, hk, hd, hc, -⟩ := h b l
    have h1 := hk.2.1
    have h2 : l.val < 128 := l.isLt
    split
    · rename_i e
      rw [flatIdx_at b l k hc, toInt_small _ (by omega)]
      rw [hd] at e
      by_contra hn
      exact absurd e (ne_of_lt ((hp.2.2 (128 * k + l.val) (Nat.zero_le _) (by omega)).2 (by omega)))
    · show (p : ℤ) ≤ 16384
      omega
  · refine (hv _).trans ?_
    obtain ⟨k, hk, hd, hc, -⟩ := h b ⟨p % 128, Nat.mod_lt _ (by omega)⟩
    have e : k = p / 128 := hk.unique (lane_best hp)
    have e2 : 128 * k + p % 128 = p := by rw [e]; exact Nat.div_add_mod p 128
    exact (if_pos (hd.trans (congrArg (fun n => D (cell b n)) e2))).trans
      ((flatIdx_at b _ k hc).trans (congrArg (BitVec.ofNat 32) e2))

/-- A coordinate chosen is the first farthest point's. -/
theorem pickCoord_eq (h : Holds X Y Z D 0 128 a) (b : Fin 8) (v : FVec Ideal S8x128 .f32) (V : Vec Ideal S8x16384 .f32)
    (hv : ∀ (l : Fin 128) (k : ℕ), a.chunk (ValueIdx.ix2 b l) = BitVec.ofNat 32 k → k < 128 →
      v (ValueIdx.ix2 b l) = V (cell b (128 * k + l.val))) :
    pickCoord lanes a v (ValueIdx.ix2 b 0) = V (cell b (far fun n => D (cell b n))) := by
  have hi := pickIdx_eq h b
  have hp := far_best fun n => D (cell b n)
  generalize far (fun n => D (cell b n)) = p at hp hi
  have hlt := hp.2.1
  unfold pickCoord
  rw [colCast]
  refine Eq.trans (Ideal.multiReduction_add_single _ _ _ _ _ _) ?_
  have hs : ∀ l : Fin 128, select (cmpi .eq (flatIdx lanes a) (broadcastTo S8x128 (pickIdx lanes a) broadcasts_S8x1_S8x128)) v
      (broadcast S8x128 (Scalar.ofBits .f32 0x00000000#32 : Ideal .f32)) (reduces_S8x128_S8.lift (ValueIdx.ix1 b) l)
      = if l.val = p % 128 then V (cell b p) else (0 : EReal) := by
    intro l
    rw [laneLift]
    obtain ⟨k, hk, hd, hc, -⟩ := h b l
    have h1 := hk.2.1
    have h2 : l.val < 128 := l.isLt
    show (if IntOp.cmpi .eq (flatIdx lanes a (ValueIdx.ix2 b l)) (broadcastTo S8x128 (pickIdx lanes a) broadcasts_S8x1_S8x128 (ValueIdx.ix2 b l)) = 1
      then v (ValueIdx.ix2 b l) else (Ideal.ofBits .f32 0x00000000#32 : EReal)) = _
    rw [broadcastCol, flatIdx_at b l k hc]
    show (if IntOp.cmpi .eq _ (pickIdx lanes a (ValueIdx.ix2 b 0)) = 1#1 then _ else _) = _
    rw [hi]
    by_cases e : l.val = p % 128
    · have e1 : k = p / 128 := by
        refine hk.unique ?_
        rw [e]
        exact lane_best hp
      have e2 : 128 * k + l.val = p := by rw [e1, e]; exact Nat.div_add_mod p 128
      rw [if_pos ((WordCmp.cmpi_eq_ofNat_eq_one_iff (w := 32) (by omega) (by omega)).2 e2), if_pos e, hv l k hc h1, e2]
    · rw [if_neg (fun c => e (by
        have := (WordCmp.cmpi_eq_ofNat_eq_one_iff (w := 32) (by omega) (by omega)).1 c
        omega)), if_neg e]
      simp [Ideal.ofBits, Ideal.ieee]
  refine (Finset.sum_congr rfl fun l _ => hs l).trans ?_
  exact (Finset.sum_eq_single (⟨p % 128, Nat.mod_lt _ (by omega)⟩ : Fin 128)
    (fun l _ hl => if_neg fun e => hl (Fin.ext e)) (fun c => absurd (Finset.mem_univ _) c)).trans (if_pos rfl)

end Cert.Fps
-- ==== Proof.Fps.KernelBody.lean ====
/- The kernel's body: what its outputs hold once it has run. -/
module

public import proofs.«01_k».proof.Proof.Fps.Loop

@[expose] public section

noncomputable section

namespace Cert.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix1 ix2 ix3)

variable {F : FTy → Type} [FloatOps F]

local notation "𝕄" => MT nD τ sig Unit (Elt F) ℕ (UR sig nD τ) ℕ

/-- The first column as the kernel loads it. -/
theorem firstCol_load (arg : Memref sig .tc .vmem S8x16384 .f32) (f : arg.view.ty.Contents (Elt F)) :
    arg.view.readAt (Elt F) (Rect.unit ![0, 0] ![8, 1] inb_S8x16384_S8x1_0_0).toLoadRect f
      = firstCol (arg.view.read (Elt F) f) := by
  rw [View.readAt_unit arg.view f inb_S8x16384_S8x1_0_0 rfl inb_S8x16384_S8x1_0_0]
  funext i
  refine congrArg (arg.view.read (Elt F) f) (funext fun a => Fin.ext ?_)
  fin_cases a
  · show 0 + 1 * (i 0).val = (i 0).val
    omega
  · show 0 + 1 * (i 1).val = 0
    have : (i 1).val < 1 := (i 1).isLt
    omega

set_option maxRecDepth 65536 in
/-- The sampling loop, by its invariant. -/
theorem loop_wp (𝒱 : Variants) (c : Dev nD) (bd : Option 𝒱.V) (E : Set ℕ)
    (arg0 arg1 arg2 : Memref sig .tc .vmem S8x16384 .f32) (arg3 : Memref sig .tc .vmem S8x2048 .i32)
    (arg4 arg5 arg6 : Memref sig .tc .vmem S8x2048 .f32) (arg7 : Memref sig .tc .vmem S8x16384 .f32)
    (X Y Z : Vec F S8x16384 .f32) (init : Carry F) {β : Type}
    (kk : Carry F → Prog (TpuEff nD τ sig (Elt F) Λ₀ .tc) β) (Q : β → sProp 𝕄) :
    iprop(inv X Y Z c arg0 arg1 arg2 arg3 arg4 arg5 arg6 arg7 0 init ∗
      (∀ acc, inv X Y Z c arg0 arg1 arg2 arg3 arg4 arg5 arg6 arg7 2048 acc -∗
        wp frame (wpE (defs₀ (F := F)) 𝒱 (c : Thread nD τ) bd) E (kk acc) Q))
    ⊢ wp frame (wpE (defs₀ (F := F)) 𝒱 (c : Thread nD τ) bd) E
        (k0_t1_loop.for k0_t1_ok init (tripProg arg0 arg1 arg2 arg3 arg4 arg5 arg6 arg7 lanes) >>= kk) Q := by
  have h := Scf.wp_for_bind frame (wpE (defs₀ (F := F)) 𝒱 (c : Thread nD τ) bd) E k0_t1_loop.lb k0_t1_loop.ub k0_t1_loop.st
    k0_t1_ok init (tripProg arg0 arg1 arg2 arg3 arg4 arg5 arg6 arg7 lanes)
    (inv X Y Z c arg0 arg1 arg2 arg3 arg4 arg5 arg6 arg7)
    (fun k acc => inv_step X Y Z 𝒱 c bd E arg0 arg1 arg2 arg3 arg4 arg5 arg6 arg7 k acc) (kk := kk) (Q := Q)
  have ht : Scf.trips k0_t1_loop.lb k0_t1_loop.ub k0_t1_loop.st = 2048 := trips_eq
  rw [ht] at h
  iintro ⟨HI, HK⟩
  ihave H := h $$ HI
  iapply H
  iexact HK

/-- The body runs from the coordinates to the outputs at the samples. -/
theorem body_wp (𝒱 : Variants) (c : Dev nD) (bd : Option 𝒱.V) (E : Set ℕ)
    (arg0 : Memref sig .tc .vmem S8x16384 .f32) (harg0 : arg0.IsWhole)
    (arg1 : Memref sig .tc .vmem S8x16384 .f32) (harg1 : arg1.IsWhole)
    (arg2 : Memref sig .tc .vmem S8x16384 .f32) (harg2 : arg2.IsWhole)
    (arg3 : Memref sig .tc .vmem S8x2048 .i32) (harg3 : arg3.IsWhole)
    (arg4 : Memref sig .tc .vmem S8x2048 .f32) (harg4 : arg4.IsWhole)
    (arg5 : Memref sig .tc .vmem S8x2048 .f32) (harg5 : arg5.IsWhole)
    (arg6 : Memref sig .tc .vmem S8x2048 .f32) (harg6 : arg6.IsWhole)
    (arg7 : Memref sig .tc .vmem S8x16384 .f32) (harg7 : arg7.IsWhole)
    (X Y Z D : Vec F S8x16384 .f32) (O3 : Vec F S8x2048 .i32) (O4 O5 O6 : Vec F S8x2048 .f32) (Q : PUnit → sProp 𝕄) :
    iprop(Coords c arg0 arg1 arg2 X Y Z ∗ owns (c : Thread nD τ) arg7 fullShare D ∗
      Outs c arg3 arg4 arg5 arg6 O3 O4 O5 O6 ∗
      (iprop(Coords c arg0 arg1 arg2 X Y Z ∗ (∃ d, owns (c : Thread nD τ) arg7 fullShare d) ∗
          Outs c arg3 arg4 arg5 arg6 (outI (F := F) X Y Z) (outX X Y Z) (outY X Y Z) (outZ X Y Z)) -∗ Q ⟨⟩))
    ⊢ wp frame (wpE (defs₀ (F := F)) 𝒱 (c : Thread nD τ) bd) E
        (cc0__fps_kernel arg0 harg0 arg1 harg1 arg2 harg2 arg3 harg3 arg4 harg4 arg5 harg5 arg6 harg6 arg7 harg7) Q := by
  rw [cc0__fps_kernel_eq_skeleton]
  unfold cc0__fps_kernel_skel
  have hb : k0_t1_body (F := F) arg0 harg0 arg1 harg1 arg2 harg2 arg3 harg3 arg4 harg4 arg5 harg5 arg6 harg6 arg7 harg7
      = tripProg arg0 arg1 arg2 arg3 arg4 arg5 arg6 arg7 :=
    funext fun v => funext fun k => funext fun s =>
      trip_eq arg0 harg0 arg1 harg1 arg2 harg2 arg3 harg3 arg4 harg4 arg5 harg5 arg6 harg6 arg7 harg7 v k s
  simp only [hb]
  unfold Coords owns
  iintro ⟨⟨⟨%f0, %hf0, H0⟩, ⟨%f1, %hf1, H1⟩, ⟨%f2, %hf2, H2⟩⟩, ⟨%f7, %hf7, H7⟩, HO, Hk⟩
  subst hf0; subst hf1; subst hf2; subst hf7
  sl_exec
  simp only [firstCol_load]
  iapply (loop_wp 𝒱 c bd E arg0 arg1 arg2 arg3 arg4 arg5 arg6 arg7 (arg0.view.read (Elt F) f0) (arg1.view.read (Elt F) f1)
    (arg2.view.read (Elt F) f2) _ _ Q)
  isplitl [H0 H1 H2 H7 HO]
  · unfold inv Coords owns
    iexists O3; iexists O4; iexists O5; iexists O6
    isplitr
    · ipureintro
      refine ⟨carried_start _ _ _, ?_, ?_, ?_, ?_⟩ <;> exact fun i hi => absurd hi (by omega)
    isplitl [H0 H1 H2]
    · isplitl [H0]
      · iexists f0; isplitr; · ipureintro; rfl
        iexact H0
      isplitl [H1]
      · iexists f1; isplitr; · ipureintro; rfl
        iexact H1
      iexists f2; isplitr; · ipureintro; rfl
      iexact H2
    isplitl [H7]
    · iexists _; isplitr; swap; · iexact H7
      ipureintro
      exact View.read_writes_full _ _ _ _ _
    iexact HO
  iintro %acc HI
  unfold inv
  icases HI with ⟨%P3, %P4, %P5, %P6, %h, HC, H7, HO⟩
  obtain ⟨e3, e4, e5, e6⟩ := done_all _ _ _ P3 P4 P5 P6 h.2
  subst e3; subst e4; subst e5; subst e6
  sl_step
  iapply Hk
  unfold Coords owns
  isplitl [HC]; · iexact HC
  isplitl [H7]
  · iexists _; iexact H7
  iexact HO

end Cert.Fps
-- ==== Proof.Fps.Launch.lean ====
/- The kernel's launch: the run of the whole program, its outputs at the samples. -/
module

public import proofs.«01_k».proof.Proof.Fps.KernelBody
public import Idealize.ShloMosaic.Lib.Claim
public import Idealize.ShloMosaic.Lib.Pipeline.ValueKit

@[expose] public section

set_option maxRecDepth 16384

noncomputable section

namespace Cert.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the inputs stay in place, and the outputs end at the samples of the inputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outI (F := F) (iblk m c 0 t) (iblk m c 1 t) (iblk m c 2 t)
    | ⟨4, _⟩ => outX (iblk m c 0 t) (iblk m c 1 t) (iblk m c 2 t)
    | ⟨5, _⟩ => outY (iblk m c 0 t) (iblk m c 1 t) (iblk m c 2 t)
    | ⟨6, _⟩ => outZ (iblk m c 0 t) (iblk m c 1 t) (iblk m c 2 t)
  Φ _ := Pipeline.ΦA spec0 c
  q _ := fullShare
  owed _ := 0

/-- The proof data's arrays are the arrays as the launch finds them. -/
theorem A_eq (c : Dev nD) (w : Fin cfg0.W) : (dats m 0 c).A w = V m c (Pipeline.arrRef spec0 w) := by
  dsimp only [dats]

/-- The body leaves the first coordinates in place. -/
theorem after_0 (c : Dev nD) (t : Fin cfg0.N) : (dats m 0 c).after 0 t = iblk m c 0 t := by dsimp only [dats]
/-- The body leaves the second coordinates in place. -/
theorem after_1 (c : Dev nD) (t : Fin cfg0.N) : (dats m 0 c).after 1 t = iblk m c 1 t := by dsimp only [dats]
/-- The body leaves the third coordinates in place. -/
theorem after_2 (c : Dev nD) (t : Fin cfg0.N) : (dats m 0 c).after 2 t = iblk m c 2 t := by dsimp only [dats]
/-- The body leaves the samples' numbers in the first output. -/
theorem after_3 (c : Dev nD) (t : Fin cfg0.N) :
    (dats m 0 c).after 3 t = outI (F := F) (iblk m c 0 t) (iblk m c 1 t) (iblk m c 2 t) := by dsimp only [dats]
/-- The body leaves the samples' first coordinates in the second output. -/
theorem after_4 (c : Dev nD) (t : Fin cfg0.N) :
    (dats m 0 c).after 4 t = outX (iblk m c 0 t) (iblk m c 1 t) (iblk m c 2 t) := by dsimp only [dats]
/-- The body leaves the samples' second coordinates in the third output. -/
theorem after_5 (c : Dev nD) (t : Fin cfg0.N) :
    (dats m 0 c).after 5 t = outY (iblk m c 0 t) (iblk m c 1 t) (iblk m c 2 t) := by dsimp only [dats]
/-- The body leaves the samples' third coordinates in the fourth output. -/
theorem after_6 (c : Dev nD) (t : Fin cfg0.N) :
    (dats m 0 c).after 6 t = outZ (iblk m c 0 t) (iblk m c 1 t) (iblk m c 2 t) := by dsimp only [dats]

/-- The body finds the first coordinates. -/
theorem before_0 (c : Dev nD) (t : Fin cfg0.N) (d) : (dats m 0 c).before 0 t d = iblk m c 0 t :=
  before0_0_of m (dats m 0 c) (A_eq m c 0) (after_0 m c) t d
/-- The body finds the second coordinates. -/
theorem before_1 (c : Dev nD) (t : Fin cfg0.N) (d) : (dats m 0 c).before 1 t d = iblk m c 1 t :=
  before0_1_of m (dats m 0 c) (A_eq m c 1) (after_1 m c) t d
/-- The body finds the third coordinates. -/
theorem before_2 (c : Dev nD) (t : Fin cfg0.N) (d) : (dats m 0 c).before 2 t d = iblk m c 2 t :=
  before0_2_of m (dats m 0 c) (A_eq m c 2) (after_2 m c) t d

/-- The scoped rest: the stored distances' buffer, at some contents. -/
theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA
  rw [scopedRest0_eq]
  simp only [owns_whole]
  try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at any point: it leaves the outputs at the samples. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA_eq]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
  iapply (body_wp Variants.none c none Set.univ _ _ _ _ _ _ _ _ _ _ _ _ _ _ _ _ (iblk m c 0 t) (iblk m c 1 t) (iblk m c 2 t) ds _ _ _ _ _)
  isplitl [H0 H1 H2]
  · isplitl [H0]; · iexact H0
    isplitl [H1]; · iexact H1
    iexact H2
  isplitl [HS]; · iexact HS
  isplitl [H3 H4 H5 H6]
  · isplitl [H3]; · iexact H3
    isplitl [H4]; · iexact H4
    isplitl [H5]; · iexact H5
    iexact H6
  iintro ⟨⟨H0, H1, H2⟩, HS, ⟨H3, H4, H5, H6⟩⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- What the region runs at a grid point is the kernel function on its buffers. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array at what the proof data gives it, and every semaphore counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The kernel leaves its argument as it was and every counter at zero. -/
theorem frame : θ_run defs (onTc (τ := τ) (main (F := F))) ⟨m, fun _ => 0, ρ⟩ fun r =>
    (∀ c : Dev nD, r.2.mem ((c.tc : Thread nD τ).loc main_arg0) = m ((c.tc : Thread nD τ).loc main_arg0)) ∧
      r.2.sem = fun _ => 0 :=
  θ_run_and (frame_of m ρ (dats m) (A_eq m) ((θ_run defs _ _).mono (fun _ h => h.1) (run_main m ρ)))
    ((θ_run defs _ _).mono (fun _ h => h.2) (run_main m ρ))

end Cert.Fps
-- ==== Proof.Fps.KernelValue.lean ====
/- What the kernel's two results hold at the end, in terms of its argument. -/
module

public import proofs.«01_k».proof.Proof.Fps.Launch
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One coordinate of every point. -/
def axis (P : Vec F S8x16384x3 .f32) (d : Fin 3) : Vec F S8x16384 .f32 := fun i => P (ValueIdx.ix3 (i 0) (i 1) d)

/-- The sampled points, their three coordinates side by side. -/
def outPts (X Y Z : Vec F S8x16384 .f32) : Vec F S8x2048x3 .f32 :=
  fun i => (![outX X Y Z, outY X Y Z, outZ X Y Z] : Fin 3 → Vec F S8x2048 .f32) (i 2) (ValueIdx.ix2 (i 0) (i 1))

/-- The points on core `c`. -/
abbrev pts (c : Dev nD) : Vec F S8x16384x3 .f32 := m ((c : Thread nD τ).loc main_arg0)

/-- The array of one coordinate that the kernel is given. -/
theorem V_x (c : Dev nD) : V m c main_v2 = axis (pts m c) 0 := by
  funext i
  unfold V V0 axis
  after_reads_at
  rfl

/-- The array of one coordinate that the kernel is given. -/
theorem V_y (c : Dev nD) : V m c main_v4 = axis (pts m c) 1 := by
  funext i
  unfold V V0 axis
  after_reads_at
  rfl

/-- The array of one coordinate that the kernel is given. -/
theorem V_z (c : Dev nD) : V m c main_v6 = axis (pts m c) 2 := by
  funext i
  unfold V V0 axis
  after_reads_at
  rfl

/-- The only grid point. -/
def t0 : Fin cfg0.N := ⟨0, by decide⟩

/-- The input's block is its whole array. -/
theorem iblk_0 (c : Dev nD) : iblk m c 0 t0 = axis (pts m c) 0 := by
  rw [← V_x m c]
  funext j
  unfold iblk
  blk_simp
  refine congrArg (V m c main_v2) (funext fun a => Fin.ext ?_)
  blk_simp
  have h : win0_0.index t0 a = 0 := by revert a; decide +kernel
  rw [h, Nat.zero_mul, Nat.zero_add]

/-- The input's block is its whole array. -/
theorem iblk_1 (c : Dev nD) : iblk m c 1 t0 = axis (pts m c) 1 := by
  rw [← V_y m c]
  funext j
  unfold iblk
  blk_simp
  refine congrArg (V m c main_v4) (funext fun a => Fin.ext ?_)
  blk_simp
  have h : win0_1.index t0 a = 0 := by revert a; decide +kernel
  rw [h, Nat.zero_mul, Nat.zero_add]

/-- The input's block is its whole array. -/
theorem iblk_2 (c : Dev nD) : iblk m c 2 t0 = axis (pts m c) 2 := by
  rw [← V_z m c]
  funext j
  unfold iblk
  blk_simp
  refine congrArg (V m c main_v6) (funext fun a => Fin.ext ?_)
  blk_simp
  have h : win0_2.index t0 a = 0 := by revert a; decide +kernel
  rw [h, Nat.zero_mul, Nat.zero_add]

/-- What the result's array holds in the end. -/
theorem arr_3 (c : Dev nD) :
    (dats m 0 c).arrAt 3 cfg0.N = outI (axis (pts m c) 0) (axis (pts m c) 1) (axis (pts m c) 2) := by
  rw [← iblk_0 m c, ← iblk_1 m c, ← iblk_2 m c]
  refine (dats m 0 c).arrAt_eq_of_after_last 3 t0 (by decide +kernel) _ fun j => ?_
  blk_simp
  rw [after_3]

/-- What the result's array holds in the end. -/
theorem arr_4 (c : Dev nD) :
    (dats m 0 c).arrAt 4 cfg0.N = outX (axis (pts m c) 0) (axis (pts m c) 1) (axis (pts m c) 2) := by
  rw [← iblk_0 m c, ← iblk_1 m c, ← iblk_2 m c]
  refine (dats m 0 c).arrAt_eq_of_after_last 4 t0 (by decide +kernel) _ fun j => ?_
  blk_simp
  rw [after_4]

/-- What the result's array holds in the end. -/
theorem arr_5 (c : Dev nD) :
    (dats m 0 c).arrAt 5 cfg0.N = outY (axis (pts m c) 0) (axis (pts m c) 1) (axis (pts m c) 2) := by
  rw [← iblk_0 m c, ← iblk_1 m c, ← iblk_2 m c]
  refine (dats m 0 c).arrAt_eq_of_after_last 5 t0 (by decide +kernel) _ fun j => ?_
  blk_simp
  rw [after_5]

/-- What the result's array holds in the end. -/
theorem arr_6 (c : Dev nD) :
    (dats m 0 c).arrAt 6 cfg0.N = outZ (axis (pts m c) 0) (axis (pts m c) 1) (axis (pts m c) 2) := by
  rw [← iblk_0 m c, ← iblk_1 m c, ← iblk_2 m c]
  refine (dats m 0 c).arrAt_eq_of_after_last 6 t0 (by decide +kernel) _ fun j => ?_
  blk_simp
  rw [after_6]

/-- The three coordinates put side by side. -/
theorem after_pts (W : Valuation τ sig (Elt F)) :
    StableHlo.after hostOps1 W main_v11
      = fun i => (![W main_v7_1, W main_v7_2, W main_v7_3] : Fin 3 → Vec F S8x2048 .f32) (i 2) (ValueIdx.ix2 (i 0) (i 1)) := by
  funext i
  have pick : ∀ (d : Fin 3) (A B C : Vec F S8x2048 .f32) (j : S8x2048.Idx),
      (if d.val < 1 then A j else if d.val - 1 < 1 then B j else C j) = (![A, B, C] : Fin 3 → Vec F S8x2048 .f32) d j := by
    intro d A B C j
    fin_cases d <;> rfl
  after_reads_at
  refine Eq.trans ?_ (pick (i 2) _ _ _ _)
  by_cases h1 : (i 2).val < 1
  · refine (dif_pos h1).trans (Eq.trans ?_ (if_pos h1).symm)
    refine (congrFun (StableHlo.unary_result _ _ _ _ _ _) _).trans ?_
    pointwise
    rfl
  refine (dif_neg h1).trans (Eq.trans ?_ (if_neg h1).symm)
  by_cases h2 : (i 2).val - 1 < 1
  · refine (dif_pos h2).trans (Eq.trans ?_ (if_pos h2).symm)
    refine (congrFun (StableHlo.unary_result _ _ _ _ _ _) _).trans ?_
    pointwise
    exact congrFun (StableHlo.upto_unwritten [main_v8] rfl (by decide) W) _
  refine (dif_neg h2).trans (Eq.trans ?_ (if_neg h2).symm)
  refine (congrFun (StableHlo.unary_result _ _ _ _ _ _) _).trans ?_
  pointwise
  exact congrFun (StableHlo.upto_unwritten [main_v8, main_v9] rfl (by decide) W) _

/-- The second result: the three coordinates of the sampled points. -/
theorem tail_pts (c : Dev nD) :
    Pipeline.afterTail₀ cfgs (dats m) 0 (V0 m) [hostOps1] c main_v11
      = outPts (axis (pts m c) 0) (axis (pts m c) 1) (axis (pts m c) 2) := by
  unfold outPts
  rw [← arr_4 m c, ← arr_5 m c, ← arr_6 m c]
  refine (after_pts _).trans ?_
  rw [← Pipeline.withArrays_arr cfg0.spec (by decide) c (V0 m c) (fun w => (dats m 0 c).arrAt w cfg0.N) 4,
    ← Pipeline.withArrays_arr cfg0.spec (by decide) c (V0 m c) (fun w => (dats m 0 c).arrAt w cfg0.N) 5,
    ← Pipeline.withArrays_arr cfg0.spec (by decide) c (V0 m c) (fun w => (dats m 0 c).arrAt w cfg0.N) 6]
  rfl

/-- A run of the kernel ends with the sampled indices and the sampled points in its results, and leaves its argument as it was. -/
theorem value : θ_run defs (onTc (τ := τ) (main (F := F))) ⟨m, fun _ => 0, ρ⟩ (fun r => ∀ c : Dev nD,
      r.2.mem ((c.tc : Thread nD τ).loc main_v7_0) = outI (F := F) (axis (pts m c) 0) (axis (pts m c) 1) (axis (pts m c) 2)
      ∧ r.2.mem ((c.tc : Thread nD τ).loc main_v11) = outPts (axis (pts m c) 0) (axis (pts m c) 1) (axis (pts m c) 2)
      ∧ r.2.mem ((c.tc : Thread nD τ).loc main_arg0) = m ((c.tc : Thread nD τ).loc main_arg0)) := by
  run_from ((θ_run defs _ _).mono (fun _ h => h.1) (run_main m ρ))
  · exact arr_3 m c
  · exact tail_pts m c
  · exact W_main_arg0 m (dats m) c

end Cert.Fps
-- ==== Proof.Fps.KernelSpec.lean ====
/- What the kernel samples is farthest point sampling. -/
module

public import proofs.«01_k».proof.Proof.Fps.Pick
public import proofs.«01_k».proof.Proof.Fps.KernelValue

@[expose] public section

noncomputable section

namespace Cert.Fps

open Idealize.ShloMosaic Idealize.ShloMosaic.TcCoe
open Cert.KernelIdeal Cert.KernelIdeal.Gen

/-- A lane's chunk number says which chunk it is. -/
theorem chunk_inj {u : BitVec 32} {k k' : ℕ} (h : u = BitVec.ofNat 32 k) (h' : u = BitVec.ofNat 32 k')
    (hk : k < 128) (hk' : k' < 128) : k = k' := by
  have e := congrArg BitVec.toNat (h.symm.trans h')
  rw [BitVec.toNat_ofNat, BitVec.toNat_ofNat, Nat.mod_eq_of_lt (by omega), Nat.mod_eq_of_lt (by omega)] at e
  exact e

/-- Before trip `k` the kernel holds the sampling's distances, current point and its coordinates. -/
theorem seq_spec (P : Vec Ideal S8x16384x3 .f32) : ∀ k : ℕ,
    (∀ b n, (seq (axis P 0) (axis P 1) (axis P 2) k).D (cell b n) = (sample (coords P b) k).1 n) ∧
    ∀ b, (seq (axis P 0) (axis P 1) (axis P 2) k).i (ValueIdx.ix2 b 0) = BitVec.ofNat 32 (sample (coords P b) k).2 ∧
      (seq (axis P 0) (axis P 1) (axis P 2) k).x (ValueIdx.ix2 b 0) = coords P b (sample (coords P b) k).2 0 ∧
      (seq (axis P 0) (axis P 1) (axis P 2) k).y (ValueIdx.ix2 b 0) = coords P b (sample (coords P b) k).2 1 ∧
      (seq (axis P 0) (axis P 1) (axis P 2) k).z (ValueIdx.ix2 b 0) = coords P b (sample (coords P b) k).2 2
  | 0 => by
    refine ⟨fun b n => ?_, fun b => ⟨rfl, rfl, rfl, rfl⟩⟩
    show Ideal.ofBits .f32 0x7F800000#32 = ⊤
    simp [Ideal.ofBits, Ideal.ieee]
  | k + 1 => by
    obtain ⟨hD, hc⟩ := seq_spec P k
    have hD' : ∀ b n, (seq (axis P 0) (axis P 1) (axis P 2) (k + 1)).D (cell b n) = (sample (coords P b) (k + 1)).1 n := by
      intro b n
      obtain ⟨-, hx, hy, hz⟩ := hc b
      show min ((seq (axis P 0) (axis P 1) (axis P 2) k).D (cell b n))
        ((coords P b n 0 - (seq (axis P 0) (axis P 1) (axis P 2) k).x (ValueIdx.ix2 b 0)) *
            (coords P b n 0 - (seq (axis P 0) (axis P 1) (axis P 2) k).x (ValueIdx.ix2 b 0)) +
          (coords P b n 1 - (seq (axis P 0) (axis P 1) (axis P 2) k).y (ValueIdx.ix2 b 0)) *
            (coords P b n 1 - (seq (axis P 0) (axis P 1) (axis P 2) k).y (ValueIdx.ix2 b 0)) +
          (coords P b n 2 - (seq (axis P 0) (axis P 1) (axis P 2) k).z (ValueIdx.ix2 b 0)) *
            (coords P b n 2 - (seq (axis P 0) (axis P 1) (axis P 2) k).z (ValueIdx.ix2 b 0)))
        = min _ (∑ a : Fin 3, (coords P b n a - coords P b (sample (coords P b) k).2 a) *
          (coords P b n a - coords P b (sample (coords P b) k).2 a))
      rw [hD, hx, hy, hz, Fin.sum_univ_three]
    refine ⟨hD', fun b => ?_⟩
    have h := holds_trip (seq (axis P 0) (axis P 1) (axis P 2) k).x (seq (axis P 0) (axis P 1) (axis P 2) k).y
      (seq (axis P 0) (axis P 1) (axis P 2) k).z (axis P 0) (axis P 1) (axis P 2) (seq (axis P 0) (axis P 1) (axis P 2) k).D
    have hf : far (fun n => (seq (axis P 0) (axis P 1) (axis P 2) (k + 1)).D (cell b n)) = (sample (coords P b) (k + 1)).2 :=
      congrArg far (funext fun n => hD' b n)
    refine ⟨(pickIdx_eq h b).trans (congrArg (BitVec.ofNat 32) hf), ?_, ?_, ?_⟩
    · refine (pickCoord_eq h b _ (axis P 0) fun l k hk hlt => ?_).trans (congrArg (fun n => coords P b n 0) hf)
      obtain ⟨k', hb, -, hk', hx, -⟩ := h b l
      rw [chunk_inj hk hk' hlt hb.2.1]
      exact hx
    · refine (pickCoord_eq h b _ (axis P 1) fun l k hk hlt => ?_).trans (congrArg (fun n => coords P b n 1) hf)
      obtain ⟨k', hb, -, hk', -, hy, -⟩ := h b l
      rw [chunk_inj hk hk' hlt hb.2.1]
      exact hy
    · refine (pickCoord_eq h b _ (axis P 2) fun l k hk hlt => ?_).trans (congrArg (fun n => coords P b n 2) hf)
      obtain ⟨k', hb, -, hk', -, -, hz⟩ := h b l
      rw [chunk_inj hk hk' hlt hb.2.1]
      exact hz

/-- The first result: the sampled points' numbers. -/
theorem outI_eq (P : Vec Ideal S8x16384x3 .f32) : outI (axis P 0) (axis P 1) (axis P 2) = sampledIdx P :=
  funext fun i => ((seq_spec P (i 1).val).2 (i 0)).1

/-- The second result: the sampled points' coordinates. -/
theorem outPts_eq (P : Vec Ideal S8x16384x3 .f32) : outPts (axis P 0) (axis P 1) (axis P 2) = sampledPts P := by
  funext i
  obtain ⟨b, n, a, rfl⟩ : ∃ b n a, i = ValueIdx.ix3 b n a := ⟨i 0, i 1, i 2, funext fun a => by fin_cases a <;> rfl⟩
  obtain ⟨-, hx, hy, hz⟩ := (seq_spec P n.val).2 b
  fin_cases a
  · exact hx
  · exact hy
  · exact hz

/-- The kernel's run: both results are the sampling's, and the argument is unchanged. -/
theorem run_spec (m : (ℓ : Loc nD τ sig) → Buf (Elt Ideal) ℓ) (ρ) :
    θ_run (defs (F := Ideal)) (onTc main) ⟨m, fun _ => 0, ρ⟩ fun r => ∀ c : Dev nD,
      r.2.mem (c.tc.loc main_v7_0) = sampledIdx (m (c.tc.loc main_arg0)) ∧
      r.2.mem (c.tc.loc main_v11) = sampledPts (m (c.tc.loc main_arg0)) ∧
      r.2.mem (c.tc.loc main_arg0) = m (c.tc.loc main_arg0) :=
  (θ_run defs _ _).mono (fun r h c => by
    obtain ⟨h0, h1, h2⟩ := h c
    exact ⟨h0.trans (outI_eq _), h1.trans (outPts_eq _), h2⟩) (value m ρ)

end Cert.Fps
-- ==== Proof.Fps.Same.lean ====
/- The kernel as printed and the kernel printed for the extended reals are one program, so that what is proved of one at every
   reading of the floats holds of the other. -/
module

public import proofs.«01_k».proof.Proof.Gen.Kernel
public import proofs.«01_k».proof.Proof.Fps.Launch

@[expose] public section

set_option maxRecDepth 100000

noncomputable section

namespace Cert.Fps

open Idealize.ShloMosaic Idealize.ShloMosaic.TcCoe Idealize.SL.Sem

variable {F : FTy → Type} [FloatOps F]

/-- The two programs' host code is one. -/
theorem main_same : Cert.Kernel.main (F := F) = Cert.KernelIdeal.main (F := F) := rfl

set_option maxHeartbeats 4000000 in
/-- The two kernels' bodies are one. -/
theorem body_same : Cert.Kernel.defs₀ (F := F) = Cert.KernelIdeal.defs₀ (F := F) := by
  unfold Cert.Kernel.defs₀ Cert.KernelIdeal.defs₀
  refine congrArg (Defs.onTc (nD := 1) (τ := Topo.v7x)) ?_
  funext l a
  fin_cases l
  obtain ⟨t, s⟩ := a
  rfl

/-- The two programs' body tables are one. -/
theorem defs_same : Cert.Kernel.defs (F := F) = Cert.KernelIdeal.defs (F := F) :=
  congrArg (Pipeline.defs _) body_same

/-- The kernel as printed leaves its argument as it was and every counter at zero. -/
theorem frame_printed (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩ fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0 := by
  have h := frame (F := F) m ρ
  rw [← main_same, ← defs_same] at h
  exact h

end Cert.Fps
-- ==== Proof.Fps.RefOps.lean ====
/- The reference's operations as lists, and its run: what every buffer holds at the end. -/
module

public import proofs.«01_k».proof.Proof.Gen.ReferenceIdeal
public import Idealize.ShloMosaic.Lib.Claim
public import Idealize.ShloMosaic.Lib.StableHlo.RunLoop
public import Idealize.ShloMosaic.Lib.Scf.ExitTest
public import Idealize.ShloMosaic.Lib.Scf.Counter
public import Idealize.ShloMosaic.Lib.Quiescent
public import Idealize.ShloMosaic.Lib.StableHlo.ReadAt

@[expose] public section

set_option maxRecDepth 16384

noncomputable section

namespace Cert.FpsRef

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-- The operations before the loop. -/
abbrev preOps : List (HloOp τ sig (Elt F)) :=
  [StableHlo.nullary main_c (constantI S_ 32 0#32),
   StableHlo.unary main_c main_v0 (broadcastInDim S8x2048 ![] bcast_S_S8x2048 : (⟨S_, .i32⟩ : BufTy).Contents (Elt F) → (⟨S8x2048, .i32⟩ : BufTy).Contents (Elt F)),
   StableHlo.nullary main_cst (constant S_ .f32 0x7F800000#32),
   StableHlo.unary main_cst main_v1 (broadcastInDim S8x16384 ![] bcast_S_S8x16384 : (⟨S_, .f32⟩ : BufTy).Contents (Elt F) → (⟨S8x16384, .f32⟩ : BufTy).Contents (Elt F)),
   StableHlo.nullary main_c_0 (constantI S_ 32 0#32),
   StableHlo.unary main_c_0 main_v2 (broadcastInDim S8 ![] bcast_S_S8 : (⟨S_, .i32⟩ : BufTy).Contents (Elt F) → (⟨S8, .i32⟩ : BufTy).Contents (Elt F)),
   StableHlo.nullary main_c_1 (constantI S_ 32 0#32),
   StableHlo.nullary main_c_2 (constantI S_ 32 0#32),
   StableHlo.unary main_arg0 main_v3_0 id,
   StableHlo.unary main_c_2 main_v3_1 id,
   StableHlo.unary main_c_1 main_v3_2 id,
   StableHlo.unary main_v0 main_v3_3 id,
   StableHlo.unary main_v1 main_v3_4 id,
   StableHlo.unary main_v2 main_v3_5 id]

/-- Each of these operations touches the TensorCore's own buffers only. -/
theorem preOps_sub : (preOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- The loop condition's operations. -/
abbrev condOps : List (HloOp τ sig (Elt F)) :=
  [StableHlo.nullary main_while0c_c_8 (constantI S_ 32 2048#32),
   StableHlo.binary main_v3_1 main_while0c_c_8 main_while0c_v7 (cmpi .slt : (⟨S_, .i32⟩ : BufTy).Contents (Elt F) → (⟨S_, .i32⟩ : BufTy).Contents (Elt F) → (⟨S_, .i1⟩ : BufTy).Contents (Elt F))]

/-- Each of these operations touches the TensorCore's own buffers only. -/
theorem condOps_sub : (condOps : List (HloOp τ sig (Elt F))).Forall fun op => op.bufs ⊆ StableHlo.tcRefs τ sig :=
  ⟨StableHlo.nullary_bufs_sub .., StableHlo.binary_bufs_sub ..⟩

/-- A trip's operations up to the reading of the current point. -/
abbrev bodyOps0 : List (HloOp τ sig (Elt F)) :=
  [StableHlo.nullary main_while0b_c_8 (constantI S_ 32 1#32),
   StableHlo.binary main_v3_2 main_while0b_c_8 main_while0b_v7 (addi : (⟨S_, .i32⟩ : BufTy).Contents (Elt F) → (⟨S_, .i32⟩ : BufTy).Contents (Elt F) → (⟨S_, .i32⟩ : BufTy).Contents (Elt F)),
   StableHlo.nullary main_while0b_c_9 (constantI S_ 32 0#32),
   StableHlo.binary main_v3_2 main_while0b_c_9 main_while0b_v8 (cmpi .slt : (⟨S_, .i32⟩ : BufTy).Contents (Elt F) → (⟨S_, .i32⟩ : BufTy).Contents (Elt F) → (⟨S_, .i1⟩ : BufTy).Contents (Elt F)),
   StableHlo.nullary main_while0b_c_10 (constantI S_ 32 2048#32),
   StableHlo.binary main_v3_2 main_while0b_c_10 main_while0b_v9 (addi : (⟨S_, .i32⟩ : BufTy).Contents (Elt F) → (⟨S_, .i32⟩ : BufTy).Contents (Elt F) → (⟨S_, .i32⟩ : BufTy).Contents (Elt F)),
   StableHlo.ternary main_while0b_v8 main_while0b_v9 main_v3_2 main_while0b_v10 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unary main_while0b_v10 main_while0b_v11 (id : (⟨S_, .i32⟩ : BufTy).Contents (Elt F) → (⟨S_, .i32⟩ : BufTy).Contents (Elt F)),
   StableHlo.unary main_while0b_v11 main_while0b_v12 (broadcastInDim S1 ![] bcast_S_S1 : (⟨S_, .i32⟩ : BufTy).Contents (Elt F) → (⟨S1, .i32⟩ : BufTy).Contents (Elt F)),
   StableHlo.ternary main_v3_3 main_while0b_v12 main_v3_5 main_while0b_v13 ((fun x i u => Host.scatter scatter_S8x2048_S1_S8_0_1_1_0 (fun _ b => b) x i u) : (⟨S8x2048, .i32⟩ : BufTy).Contents (Elt F) → (⟨S1, .i32⟩ : BufTy).Contents (Elt F) → (⟨S8, .i32⟩ : BufTy).Contents (Elt F) → (⟨S8x2048, .i32⟩ : BufTy).Contents (Elt F)),
   StableHlo.unary main_v3_5 main_while0b_v14 (broadcastInDim S8x1x1 ![0] bcast_S8_S8x1x1_0 : (⟨S8, .i32⟩ : BufTy).Contents (Elt F) → (⟨S8x1x1, .i32⟩ : BufTy).Contents (Elt F)),
   StableHlo.unary main_while0b_v14 main_while0b_v15 (broadcastInDim S8x1x3 ![0, 1, 2] bcast_S8x1x1_S8x1x3_0_1_2 : (⟨S8x1x1, .i32⟩ : BufTy).Contents (Elt F) → (⟨S8x1x3, .i32⟩ : BufTy).Contents (Elt F))]

/-- Each of these operations touches the TensorCore's own buffers only. -/
theorem bodyOps0_sub : (bodyOps0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub .., StableHlo.unary_bufs_sub ..⟩

/-- The operations that read the current point of every batch. -/
abbrev takeOps : List (HloOp τ sig (Elt F)) :=
  [StableHlo.nullary main_while0b_call0_c (constantI S_ 32 0#32),
   StableHlo.unary main_while0b_call0_c main_while0b_call0_v0 ((broadcastInDim S8x1x3 ![] bcast_S_S8x1x3) : (⟨S_, .i32⟩ : BufTy).Contents (Elt F) → (⟨S8x1x3, .i32⟩ : BufTy).Contents (Elt F)),
   StableHlo.binary main_while0b_v15 main_while0b_call0_v0 main_while0b_call0_v1 ((cmpi .slt) : (⟨S8x1x3, .i32⟩ : BufTy).Contents (Elt F) → (⟨S8x1x3, .i32⟩ : BufTy).Contents (Elt F) → (⟨S8x1x3, .i1⟩ : BufTy).Contents (Elt F)),
   StableHlo.nullary main_while0b_call0_c_0 (constantI S_ 32 16384#32),
   StableHlo.unary main_while0b_call0_c_0 main_while0b_call0_v2 ((broadcastInDim S8x1x3 ![] bcast_S_S8x1x3) : (⟨S_, .i32⟩ : BufTy).Contents (Elt F) → (⟨S8x1x3, .i32⟩ : BufTy).Contents (Elt F)),
   StableHlo.binary main_while0b_v15 main_while0b_call0_v2 main_while0b_call0_v3 (addi : (⟨S8x1x3, .i32⟩ : BufTy).Contents (Elt F) → (⟨S8x1x3, .i32⟩ : BufTy).Contents (Elt F) → (⟨S8x1x3, .i32⟩ : BufTy).Contents (Elt F)),
   StableHlo.ternary main_while0b_call0_v1 main_while0b_call0_v3 main_while0b_v15 main_while0b_call0_v4 (select : (⟨S8x1x3, .i1⟩ : BufTy).Contents (Elt F) → (⟨S8x1x3, .i32⟩ : BufTy).Contents (Elt F) → (⟨S8x1x3, .i32⟩ : BufTy).Contents (Elt F) → (⟨S8x1x3, .i32⟩ : BufTy).Contents (Elt F)),
   StableHlo.reshape main_while0b_call0_v4 main_while0b_call0_v5 rfl shapeCasts_S8x1x3_S8x1x3x1,
   StableHlo.nullary main_while0b_call0_c_1 (constantI S1 32 16383#32),
   StableHlo.nullary main_while0b_call0_c_2 (constantI S_ 32 0#32),
   StableHlo.unary main_while0b_call0_c_2 main_while0b_call0_v6 ((broadcastInDim S8x1x3x1 ![] bcast_S_S8x1x3x1) : (⟨S_, .i32⟩ : BufTy).Contents (Elt F) → (⟨S8x1x3x1, .i32⟩ : BufTy).Contents (Elt F)),
   StableHlo.binary main_while0b_call0_v5 main_while0b_call0_v6 main_while0b_call0_v7 ((cmpi .sge) : (⟨S8x1x3x1, .i32⟩ : BufTy).Contents (Elt F) → (⟨S8x1x3x1, .i32⟩ : BufTy).Contents (Elt F) → (⟨S8x1x3x1, .i1⟩ : BufTy).Contents (Elt F)),
   StableHlo.unary main_while0b_call0_c_1 main_while0b_call0_v8 ((broadcastInDim S1x1x1x1 ![3] bcast_S1_S1x1x1x1_3) : (⟨S1, .i32⟩ : BufTy).Contents (Elt F) → (⟨S1x1x1x1, .i32⟩ : BufTy).Contents (Elt F)),
   StableHlo.unary main_while0b_call0_v8 main_while0b_call0_v9 ((broadcastInDim S8x1x3x1 ![0, 1, 2, 3] bcast_S1x1x1x1_S8x1x3x1_0_1_2_3) : (⟨S1x1x1x1, .i32⟩ : BufTy).Contents (Elt F) → (⟨S8x1x3x1, .i32⟩ : BufTy).Contents (Elt F)),
   StableHlo.binary main_while0b_call0_v5 main_while0b_call0_v9 main_while0b_call0_v10 ((cmpi .sle) : (⟨S8x1x3x1, .i32⟩ : BufTy).Contents (Elt F) → (⟨S8x1x3x1, .i32⟩ : BufTy).Contents (Elt F) → (⟨S8x1x3x1, .i1⟩ : BufTy).Contents (Elt F)),
   StableHlo.binary main_while0b_call0_v7 main_while0b_call0_v10 main_while0b_call0_v11 (andi : (⟨S8x1x3x1, .i1⟩ : BufTy).Contents (Elt F) → (⟨S8x1x3x1, .i1⟩ : BufTy).Contents (Elt F) → (⟨S8x1x3x1, .i1⟩ : BufTy).Contents (Elt F)),
   StableHlo.nullary main_while0b_call0_c_3 (constantI S_ 1 1#1),
   StableHlo.binary main_while0b_call0_v11 main_while0b_call0_c_3 main_while0b_call0_v12 ((fun x v => Host.reduce IntOp.andi x v reducesTo_S8x1x3x1_S8x1x3_d3 h_S_) : (⟨S8x1x3x1, .i1⟩ : BufTy).Contents (Elt F) → (⟨S_, .i1⟩ : BufTy).Contents (Elt F) → (⟨S8x1x3, .i1⟩ : BufTy).Contents (Elt F)),
   StableHlo.binary main_v3_0 main_while0b_call0_v5 main_while0b_call0_v13 ((fun x i => Host.gather gather_S8x16384x3_S8x1x3x1_S8x1x3_n_1_02_02_1_3_111 x i) : (⟨S8x16384x3, .f32⟩ : BufTy).Contents (Elt F) → (⟨S8x1x3x1, .i32⟩ : BufTy).Contents (Elt F) → (⟨S8x1x3, .f32⟩ : BufTy).Contents (Elt F)),
   StableHlo.nullary main_while0b_call0_cst (constant S_ .f32 0x7FC00000#32),
   StableHlo.unary main_while0b_call0_cst main_while0b_call0_v14 ((broadcastInDim S8x1x3 ![] bcast_S_S8x1x3) : (⟨S_, .f32⟩ : BufTy).Contents (Elt F) → (⟨S8x1x3, .f32⟩ : BufTy).Contents (Elt F)),
   StableHlo.ternary main_while0b_call0_v12 main_while0b_call0_v13 main_while0b_call0_v14 main_while0b_v16 (select : (⟨S8x1x3, .i1⟩ : BufTy).Contents (Elt F) → (⟨S8x1x3, .f32⟩ : BufTy).Contents (Elt F) → (⟨S8x1x3, .f32⟩ : BufTy).Contents (Elt F) → (⟨S8x1x3, .f32⟩ : BufTy).Contents (Elt F))]

/-- Each of these operations touches the TensorCore's own buffers only. -/
theorem takeOps_sub : (takeOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- A trip's operations from the current point to the distances. -/
abbrev bodyOps1 : List (HloOp τ sig (Elt F)) :=
  [StableHlo.unary main_while0b_v16 main_while0b_v17 (broadcastInDim S8x16384x3 ![0, 1, 2] bcast_S8x1x3_S8x16384x3_0_1_2 : (⟨S8x1x3, .f32⟩ : BufTy).Contents (Elt F) → (⟨S8x16384x3, .f32⟩ : BufTy).Contents (Elt F)),
   StableHlo.binary main_v3_0 main_while0b_v17 main_while0b_v18 (subf : (⟨S8x16384x3, .f32⟩ : BufTy).Contents (Elt F) → (⟨S8x16384x3, .f32⟩ : BufTy).Contents (Elt F) → (⟨S8x16384x3, .f32⟩ : BufTy).Contents (Elt F)),
   StableHlo.binary main_while0b_v18 main_while0b_v18 main_while0b_v19 (mulf : (⟨S8x16384x3, .f32⟩ : BufTy).Contents (Elt F) → (⟨S8x16384x3, .f32⟩ : BufTy).Contents (Elt F) → (⟨S8x16384x3, .f32⟩ : BufTy).Contents (Elt F)),
   StableHlo.nullary main_while0b_cst_11 (constant S_ .f32 0x00000000#32),
   StableHlo.binary main_while0b_v19 main_while0b_cst_11 main_while0b_v20 ((fun x v => Host.reduceAdd x v reducesTo_S8x16384x3_S8x16384_d2 h_S_) : (⟨S8x16384x3, .f32⟩ : BufTy).Contents (Elt F) → (⟨S_, .f32⟩ : BufTy).Contents (Elt F) → (⟨S8x16384, .f32⟩ : BufTy).Contents (Elt F)),
   StableHlo.binary main_v3_4 main_while0b_v20 main_while0b_v21 (minimumf : (⟨S8x16384, .f32⟩ : BufTy).Contents (Elt F) → (⟨S8x16384, .f32⟩ : BufTy).Contents (Elt F) → (⟨S8x16384, .f32⟩ : BufTy).Contents (Elt F))]

/-- Each of these operations touches the TensorCore's own buffers only. -/
theorem bodyOps1_sub : (bodyOps1 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩

/-- The operations that find the farthest point. -/
abbrev argmaxOps : List (HloOp τ sig (Elt F)) :=
  [StableHlo.nullary main_while0b_call1_v0 (iotaInDim S8x16384 32 1),
   StableHlo.nullary main_while0b_call1_cst (constant S_ .f32 0xFF800000#32),
   StableHlo.nullary main_while0b_call1_c (constantI S_ 32 0#32),
   StableHlo.quaternary main_while0b_v21 main_while0b_call1_v0 main_while0b_call1_cst main_while0b_call1_c main_while0b_call1_v1_0 ((fun x y u v j => (Host.argReduce reducer_argmax_f32_i32 x y u v reducesTo_S8x16384_S8_d1 h_S_ j).1) : (⟨S8x16384, .f32⟩ : BufTy).Contents (Elt F) → (⟨S8x16384, .i32⟩ : BufTy).Contents (Elt F) → (⟨S_, .f32⟩ : BufTy).Contents (Elt F) → (⟨S_, .i32⟩ : BufTy).Contents (Elt F) → (⟨S8, .f32⟩ : BufTy).Contents (Elt F)),
   StableHlo.quaternary main_while0b_v21 main_while0b_call1_v0 main_while0b_call1_cst main_while0b_call1_c main_while0b_v22 ((fun x y u v j => (Host.argReduce reducer_argmax_f32_i32 x y u v reducesTo_S8x16384_S8_d1 h_S_ j).2) : (⟨S8x16384, .f32⟩ : BufTy).Contents (Elt F) → (⟨S8x16384, .i32⟩ : BufTy).Contents (Elt F) → (⟨S_, .f32⟩ : BufTy).Contents (Elt F) → (⟨S_, .i32⟩ : BufTy).Contents (Elt F) → (⟨S8, .i32⟩ : BufTy).Contents (Elt F))]

/-- Each of these operations touches the TensorCore's own buffers only. -/
theorem argmaxOps_sub : (argmaxOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- A trip's operations after the farthest point: the carried values. -/
abbrev bodyOps2 : List (HloOp τ sig (Elt F)) :=
  [StableHlo.nullary main_while0b_c_12 (constantI S_ 32 1#32),
   StableHlo.binary main_v3_1 main_while0b_c_12 main_while0b_v23 (addi : (⟨S_, .i32⟩ : BufTy).Contents (Elt F) → (⟨S_, .i32⟩ : BufTy).Contents (Elt F) → (⟨S_, .i32⟩ : BufTy).Contents (Elt F)),
   StableHlo.unary main_while0b_v23 main_v3_1 id,
   StableHlo.unary main_while0b_v7 main_v3_2 id,
   StableHlo.unary main_while0b_v13 main_v3_3 id,
   StableHlo.unary main_while0b_v21 main_v3_4 id,
   StableHlo.unary main_while0b_v22 main_v3_5 id]

/-- Each of these operations touches the TensorCore's own buffers only. -/
theorem bodyOps2_sub : (bodyOps2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩

/-- The operations after the loop, up to the reading of the sampled points. -/
abbrev postOps : List (HloOp τ sig (Elt F)) :=
  [StableHlo.unary main_v3_3 main_v4 (broadcastInDim S8x2048x1 ![0, 1] bcast_S8x2048_S8x2048x1_0_1 : (⟨S8x2048, .i32⟩ : BufTy).Contents (Elt F) → (⟨S8x2048x1, .i32⟩ : BufTy).Contents (Elt F)),
   StableHlo.unary main_v4 main_v5 (broadcastInDim S8x2048x3 ![0, 1, 2] bcast_S8x2048x1_S8x2048x3_0_1_2 : (⟨S8x2048x1, .i32⟩ : BufTy).Contents (Elt F) → (⟨S8x2048x3, .i32⟩ : BufTy).Contents (Elt F))]

/-- Each of these operations touches the TensorCore's own buffers only. -/
theorem postOps_sub : (postOps : List (HloOp τ sig (Elt F))).Forall fun op => op.bufs ⊆ StableHlo.tcRefs τ sig :=
  ⟨StableHlo.unary_bufs_sub .., StableHlo.unary_bufs_sub ..⟩

/-- The operations that read the sampled points. -/
abbrev takeAllOps : List (HloOp τ sig (Elt F)) :=
  [StableHlo.nullary main_call2_c (constantI S_ 32 0#32),
   StableHlo.unary main_call2_c main_call2_v0 ((broadcastInDim S8x2048x3 ![] bcast_S_S8x2048x3) : (⟨S_, .i32⟩ : BufTy).Contents (Elt F) → (⟨S8x2048x3, .i32⟩ : BufTy).Contents (Elt F)),
   StableHlo.binary main_v5 main_call2_v0 main_call2_v1 ((cmpi .slt) : (⟨S8x2048x3, .i32⟩ : BufTy).Contents (Elt F) → (⟨S8x2048x3, .i32⟩ : BufTy).Contents (Elt F) → (⟨S8x2048x3, .i1⟩ : BufTy).Contents (Elt F)),
   StableHlo.nullary main_call2_c_0 (constantI S_ 32 16384#32),
   StableHlo.unary main_call2_c_0 main_call2_v2 ((broadcastInDim S8x2048x3 ![] bcast_S_S8x2048x3) : (⟨S_, .i32⟩ : BufTy).Contents (Elt F) → (⟨S8x2048x3, .i32⟩ : BufTy).Contents (Elt F)),
   StableHlo.binary main_v5 main_call2_v2 main_call2_v3 (addi : (⟨S8x2048x3, .i32⟩ : BufTy).Contents (Elt F) → (⟨S8x2048x3, .i32⟩ : BufTy).Contents (Elt F) → (⟨S8x2048x3, .i32⟩ : BufTy).Contents (Elt F)),
   StableHlo.ternary main_call2_v1 main_call2_v3 main_v5 main_call2_v4 (select : (⟨S8x2048x3, .i1⟩ : BufTy).Contents (Elt F) → (⟨S8x2048x3, .i32⟩ : BufTy).Contents (Elt F) → (⟨S8x2048x3, .i32⟩ : BufTy).Contents (Elt F) → (⟨S8x2048x3, .i32⟩ : BufTy).Contents (Elt F)),
   StableHlo.reshape main_call2_v4 main_call2_v5 rfl shapeCasts_S8x2048x3_S8x2048x3x1,
   StableHlo.nullary main_call2_c_1 (constantI S1 32 16383#32),
   StableHlo.nullary main_call2_c_2 (constantI S_ 32 0#32),
   StableHlo.unary main_call2_c_2 main_call2_v6 ((broadcastInDim S8x2048x3x1 ![] bcast_S_S8x2048x3x1) : (⟨S_, .i32⟩ : BufTy).Contents (Elt F) → (⟨S8x2048x3x1, .i32⟩ : BufTy).Contents (Elt F)),
   StableHlo.binary main_call2_v5 main_call2_v6 main_call2_v7 ((cmpi .sge) : (⟨S8x2048x3x1, .i32⟩ : BufTy).Contents (Elt F) → (⟨S8x2048x3x1, .i32⟩ : BufTy).Contents (Elt F) → (⟨S8x2048x3x1, .i1⟩ : BufTy).Contents (Elt F)),
   StableHlo.unary main_call2_c_1 main_call2_v8 ((broadcastInDim S1x1x1x1 ![3] bcast_S1_S1x1x1x1_3) : (⟨S1, .i32⟩ : BufTy).Contents (Elt F) → (⟨S1x1x1x1, .i32⟩ : BufTy).Contents (Elt F)),
   StableHlo.unary main_call2_v8 main_call2_v9 ((broadcastInDim S8x2048x3x1 ![0, 1, 2, 3] bcast_S1x1x1x1_S8x2048x3x1_0_1_2_3) : (⟨S1x1x1x1, .i32⟩ : BufTy).Contents (Elt F) → (⟨S8x2048x3x1, .i32⟩ : BufTy).Contents (Elt F)),
   StableHlo.binary main_call2_v5 main_call2_v9 main_call2_v10 ((cmpi .sle) : (⟨S8x2048x3x1, .i32⟩ : BufTy).Contents (Elt F) → (⟨S8x2048x3x1, .i32⟩ : BufTy).Contents (Elt F) → (⟨S8x2048x3x1, .i1⟩ : BufTy).Contents (Elt F)),
   StableHlo.binary main_call2_v7 main_call2_v10 main_call2_v11 (andi : (⟨S8x2048x3x1, .i1⟩ : BufTy).Contents (Elt F) → (⟨S8x2048x3x1, .i1⟩ : BufTy).Contents (Elt F) → (⟨S8x2048x3x1, .i1⟩ : BufTy).Contents (Elt F)),
   StableHlo.nullary main_call2_c_3 (constantI S_ 1 1#1),
   StableHlo.binary main_call2_v11 main_call2_c_3 main_call2_v12 ((fun x v => Host.reduce IntOp.andi x v reducesTo_S8x2048x3x1_S8x2048x3_d3 h_S_) : (⟨S8x2048x3x1, .i1⟩ : BufTy).Contents (Elt F) → (⟨S_, .i1⟩ : BufTy).Contents (Elt F) → (⟨S8x2048x3, .i1⟩ : BufTy).Contents (Elt F)),
   StableHlo.binary main_arg0 main_call2_v5 main_call2_v13 ((fun x i => Host.gather gather_S8x16384x3_S8x2048x3x1_S8x2048x3_n_1_02_02_1_3_111 x i) : (⟨S8x16384x3, .f32⟩ : BufTy).Contents (Elt F) → (⟨S8x2048x3x1, .i32⟩ : BufTy).Contents (Elt F) → (⟨S8x2048x3, .f32⟩ : BufTy).Contents (Elt F)),
   StableHlo.nullary main_call2_cst (constant S_ .f32 0x7FC00000#32),
   StableHlo.unary main_call2_cst main_call2_v14 ((broadcastInDim S8x2048x3 ![] bcast_S_S8x2048x3) : (⟨S_, .f32⟩ : BufTy).Contents (Elt F) → (⟨S8x2048x3, .f32⟩ : BufTy).Contents (Elt F)),
   StableHlo.ternary main_call2_v12 main_call2_v13 main_call2_v14 main_v6 (select : (⟨S8x2048x3, .i1⟩ : BufTy).Contents (Elt F) → (⟨S8x2048x3, .f32⟩ : BufTy).Contents (Elt F) → (⟨S8x2048x3, .f32⟩ : BufTy).Contents (Elt F) → (⟨S8x2048x3, .f32⟩ : BufTy).Contents (Elt F))]

/-- Each of these operations touches the TensorCore's own buffers only. -/
theorem takeAllOps_sub : (takeAllOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- A trip's operations, stretch by stretch. -/
abbrev bodyI : List (List (HloOp τ sig (Elt F))) := [bodyOps0, takeOps, bodyOps1, argmaxOps, bodyOps2]

/-- The program is its operations before the loop, the loop, and its operations after it. -/
theorem main_chain (c : Dev nD) :
    main (F := F) c = Pipeline.chain [StableHlo.seq preOps, HostLoop.enter 0, StableHlo.seq postOps, StableHlo.seq takeAllOps] := by
  chain_rfl

/-- A trip is its operations, stretch by stretch. -/
theorem body_chain :
    main_while0_body (F := F) = Pipeline.chain ((bodyI (F := F)).map fun ops => StableHlo.seq ops) := by
  chain_rfl

end Cert.FpsRef
-- ==== Proof.Fps.RefRun.lean ====
/- The run of the reference: every buffer at the end, and the semaphores. -/
module

public import proofs.«01_k».proof.Proof.Fps.RefOps
public import Idealize.ShloMosaic.Lib.WordCmp

@[expose] public section

set_option maxRecDepth 16384

noncomputable section

namespace Cert.FpsRef

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen
open Idealize.ShloMosaic.StableHlo (after afterL atTrip Plain LoopCond loopSeg segsOf segsOf_chains segsOf_prog segsOf_M_T held)
open Idealize.ShloMosaic.Pipeline (ucRefs sub_ucRefs CSeg)

variable {F : FTy → Type} [FloatOps F]

local notation "𝕄" => MT nD τ sig Unit (Elt F) ℕ (Option PUnit) ℕ
local notation "𝕍" => Variants.lift Variants.none

/-- No stretch before the loop leaves a buffer undetermined. -/
theorem pre_plain : Plain ([preOps] : List (List (HloOp τ sig (Elt F)))) := .cons preOps_sub .nil
/-- No stretch of a trip leaves a buffer undetermined. -/
theorem body_plain : Plain (bodyI (F := F)) :=
  .cons bodyOps0_sub (.cons takeOps_sub (.cons bodyOps1_sub (.cons argmaxOps_sub (.cons bodyOps2_sub .nil))))
/-- No stretch after the loop leaves a buffer undetermined. -/
theorem post_plain : Plain ([postOps, takeAllOps] : List (List (HloOp τ sig (Elt F)))) :=
  .cons postOps_sub (.cons takeAllOps_sub .nil)

variable (m : (ℓ : Loc nD τ sig) → Buf (Elt F) ℓ)

/-- The buffers of core `c` at the loop's entry. -/
def entry (c : Dev nD) : Valuation τ sig (Elt F) := after preOps (StableHlo.launchContents m c)

/-- The buffers of core `c` before the trip's condition is run for the `k`-th time, counted from 0. -/
def round (k : ℕ) (c : Dev nD) : Valuation τ sig (Elt F) := atTrip condOps bodyI (entry m) k c

/-- The buffers of core `c` at the end. -/
def final (c : Dev nD) : Valuation τ sig (Elt F) := after takeAllOps (after postOps (after condOps (round m 2048 c)))

/-- One trip from the buffers before the condition. -/
def trip (V : Valuation τ sig (Elt F)) : Valuation τ sig (Elt F) :=
  after bodyOps2 (after argmaxOps (after bodyOps1 (after takeOps (after bodyOps0 (after condOps V)))))

/-- Before the first trip the buffers are as at the loop's entry. -/
theorem round_zero (c : Dev nD) : round m 0 c = entry m c := rfl
/-- Each trip is made on what the trip before it left. -/
theorem round_succ (k : ℕ) (c : Dev nD) : round m (k + 1) c = trip (round m k c) := rfl

/-- A trip adds one to its counter. -/
theorem trip_ctr (V : Valuation τ sig (Elt F)) :
    trip V main_v3_1 = addi (V main_v3_1) (constantI S_ 32 1#32) := by
  unfold trip
  after_reads_simp
  rfl

/-- The counter at the loop's entry is zero. -/
theorem entry_ctr (c : Dev nD) : entry m c main_v3_1 = constantI S_ 32 0#32 := by
  unfold entry
  after_reads_simp
  rfl

/-- The counter before the `k`-th condition is `k`. -/
theorem round_ctr (c : Dev nD) (k : ℕ) : round m k c main_v3_1 = constantI S_ 32 (BitVec.ofNat 32 k) := by
  induction k with
  | zero => exact entry_ctr m c
  | succ k ih =>
    rw [round_succ, trip_ctr, ih]
    funext i
    exact (BitVec.ofNat_add k 1).symm

/-- The condition holds of the counter exactly before the last trip is over. -/
theorem cond_word (k : ℕ) (hk : k ≤ 2048) : Iff (IntOp.cmpi .slt (BitVec.ofNat 32 k) 2048#32 = 1#1) (k < 2048) :=
  WordCmp.cmpi_slt_ofNat_eq_one_iff (w := 32) (by omega) (by omega)

-- a rule stated for any thread is applied at the TensorCore's
set_option backward.isDefEq.respectTransparency.types false in
/-- The condition's region: it leaves the buffers as its operations do, and its answer says whether a trip is left. -/
theorem loop_cond : LoopCond (pcfgs (F := F)) defs₀ Variants.none loops
    (fun c : Dev nD => (iprop(∃ W, owes (c : Thread nD τ) (0 : CellTallies nD τ sig Unit) W) : sProp 𝕄))
    (main_while0_cond (F := F)) condOps bodyI (entry m) 2048 := by
  intro k hk c bd
  have hctr : atTrip condOps bodyI (entry m) k c main_v3_1 = constantI S_ 32 (BitVec.ofNat 32 k) := round_ctr m c k
  unfold main_while0_cond
  rw [wp_bind]
  iintro ⟨Hb, Hh, HR⟩
  iapply (StableHlo.wp_hlo_within 𝕍 (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within 𝕍 (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI (entry m) k c) main_v3_1 HostLoop.idx0)
      (HloOp.result _ (atTrip condOps bodyI (entry m) k c) main_while0c_c_8 HostLoop.idx0) = 1#1) (k < 2048)
    rw [StableHlo.nullary_result_ne _ _ _ _ (by decide), StableHlo.nullary_result, hctr]
    exact cond_word k hk
  isplitl [Hb]; · iexact Hb
  isplitl [Hh]; · iexact Hh
  iexact HR

/-! ## The program's parts as one chain of segments -/

/-- The program has no kernel, so nothing to admit. -/
abbrev adm : (p : Fin 0) → (pcfgs (F := F) p).Adm := fun p => p.elim0
/-- The program has no kernel, so no ticket. -/
abbrev tk : Fin 0 → Pipeline.Ticket (Ix := Unit) (Name := ℕ) (U := Option PUnit) (Lvl := ℕ) (nD := nD) (τ := τ) (pcfgs (F := F)) adm :=
  fun j => j.elim0
/-- No semaphore is waited on. -/
abbrev lvSet : GSem nD τ sig → Finset Unit := fun _ => ∅
/-- The level of a wait: there is none. -/
abbrev lvOf : GSem nD τ sig → Unit → ℕ := fun _ _ => 0

/-- What a core owes: nothing. -/
abbrev owed (c : Dev nD) : sProp 𝕄 := iprop(∃ W, owes (c : Thread nD τ) (0 : CellTallies nD τ sig Unit) W)

/-- The stretches before the loop, the loop and the stretches after it. -/
def parts : List (CSeg (pcfgs (F := F)) adm defs₀ Variants.none lvSet lvOf loops tk) :=
  segsOf _ _ _ _ _ _ _ _ owed [preOps] pre_plain (StableHlo.launchContents m)
    ++ loopSeg _ _ _ _ _ _ _ _ 0 main_while0_cond main_while0_body rfl condOps bodyI body_plain body_chain 2048 (entry m) owed (loop_cond m)
      :: segsOf _ _ _ _ _ _ _ _ owed [postOps, takeAllOps] post_plain (fun c => after condOps (round m 2048 c))

/-- The parts' programs, one after the other, are the program's. -/
theorem parts_prog : (parts m).map CSeg.prog = [StableHlo.seq preOps, HostLoop.enter 0, StableHlo.seq postOps, StableHlo.seq takeAllOps] := by
  unfold parts
  rw [List.map_append, List.map_cons, segsOf_prog, segsOf_prog]
  rfl

/-- Each part starts where the one before it ends. -/
theorem parts_chain :
    CSeg.Chains (fun c => iprop(held (c : Thread nD τ) (ucRefs τ sig) (StableHlo.launchContents m c) ∗ owed c)) (parts m)
      (fun c => iprop(iprop(held (c : Thread nD τ) (ucRefs τ sig) (final m c)) ∗ ∃ W, owes (c : Thread nD τ) (0 : CellTallies nD τ sig Unit) W)) := by
  unfold parts
  exact CSeg.Chains.append (segsOf_chains _ _ _ _ _ _ _ _ owed [preOps] pre_plain _)
    ⟨fun _ => .rfl, segsOf_chains _ _ _ _ _ _ _ _ owed [postOps, takeAllOps] post_plain _⟩

/-- No part takes a ticket. -/
theorem parts_disjoint : (parts m).Pairwise fun s s' => Disjoint s.T s'.T :=
  CSeg.pairwise_disjoint_of_T_empty _ fun s _ => Finset.eq_empty_of_isEmpty s.T

/-- A run of the reference ends with every buffer at `final` and every semaphore at zero. -/
theorem run (ρ : Dev nD → PrngReg) : θ_run (defs (F := F)) (onTc (τ := τ) (main (F := F))) ⟨m, fun _ => 0, ρ⟩
    (fun r => (∀ (c : Dev nD), ∀ b ∈ ucRefs τ sig, r.2.mem ((c : Dev nD), b) = final m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none lvSet lvOf loops tk m ρ main (parts m)
    (fun c Q => by
      rw [main_chain c]
      show wp _ _ _ (Pipeline.chain ((parts m).map CSeg.prog)) Q ⊢ _
      rw [parts_prog])
    (parts_disjoint m)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (StableHlo.launchContents m c) ∗ owed c))
    (Tₙ := fun c => iprop(held (c : Thread nD τ) (ucRefs τ sig) (final m c)))
    (hch := parts_chain m)
    (hinit := by
      refine Pipeline.initEach lvSet lvOf fun c => ?_
      rw [show unscopedBufs c (fun b => m ((c : Thread nD τ).loc b)) = held (c : Thread nD τ) (ucRefs τ sig) (StableHlo.launchContents m c)
        from Pipeline.unscopedBufs_held c (StableHlo.launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h hs => ⟨h, sem_eq_zero hs fun c sm hsm =>
      absurd hsm ((by decide : ∀ sm : SemLoc sig, ¬ sm.isScoped .tc = false) sm)⟩)

end Cert.FpsRef
-- ==== Proof.Fps.RefTrip.lean ====
/- What one trip of the reference leaves in the buffers it carries, and what the results hold at the end. -/
module

public import proofs.«01_k».proof.Proof.Fps.RefRun

@[expose] public section

set_option maxRecDepth 16384

noncomputable section

namespace Cert.FpsRef

open Idealize.ShloMosaic Idealize.ShloMosaic.TcCoe Idealize.ShloMosaic.Tactic
open Cert.ReferenceIdeal Cert.ReferenceIdeal.Gen
open Idealize.ShloMosaic.StableHlo (after)

variable {F : FTy → Type} [FloatOps F]

/-- The start indices of a reading of points: a negative number counts from the end. -/
def starts {s : Shape} (z n : IVec s 32) (j : IVec s 32) : IVec s 32 := select (cmpi .slt j z) (addi j n) j

/-- A point's number, once for each of its coordinates. -/
def spread (j : IVec S8 32) : IVec S8x1x3 32 :=
  broadcastInDim S8x1x3 ![0, 1, 2] bcast_S8x1x1_S8x1x3_0_1_2 (broadcastInDim S8x1x1 ![0] bcast_S8_S8x1x1_0 j)

/-- The start indices of the reading of one point of every batch. -/
def start1 (j : IVec S8x1x3 32) : IVec S8x1x3x1 32 :=
  shapeCast S8x1x3x1 (starts (broadcastInDim S8x1x3 ![] bcast_S_S8x1x3 (constantI S_ 32 0#32))
    (broadcastInDim S8x1x3 ![] bcast_S_S8x1x3 (constantI S_ 32 16384#32)) j) shapeCasts_S8x1x3_S8x1x3x1

/-- Where those start indices are in range. -/
def inside1 (i : IVec S8x1x3x1 32) : IVec S8x1x3 1 :=
  Host.reduce IntOp.andi
    (andi (cmpi .sge i (broadcastInDim S8x1x3x1 ![] bcast_S_S8x1x3x1 (constantI S_ 32 0#32)))
      (cmpi .sle i (broadcastInDim S8x1x3x1 ![0, 1, 2, 3] bcast_S1x1x1x1_S8x1x3x1_0_1_2_3
        (broadcastInDim S1x1x1x1 ![3] bcast_S1_S1x1x1x1_3 (constantI S1 32 16383#32)))))
    (constantI S_ 1 1#1) reducesTo_S8x1x3x1_S8x1x3_d3 h_S_

/-- One point of every batch. -/
def take1 (P : Vec F S8x16384x3 .f32) (j : IVec S8x1x3 32) : Vec F S8x1x3 .f32 :=
  select (inside1 (start1 j))
    (Host.gather gather_S8x16384x3_S8x1x3x1_S8x1x3_n_1_02_02_1_3_111 P (start1 j))
    (broadcastInDim S8x1x3 ![] bcast_S_S8x1x3 (constant S_ .f32 0x7FC00000#32))

/-- The points' differences from one point of every batch. -/
def diff (P : Vec F S8x16384x3 .f32) (q : Vec F S8x1x3 .f32) : FVec F S8x16384x3 .f32 :=
  subf P (broadcastInDim S8x16384x3 ![0, 1, 2] bcast_S8x1x3_S8x16384x3_0_1_2 q)

/-- The new distances. -/
def refDist (P : Vec F S8x16384x3 .f32) (j : IVec S8 32) (D : Vec F S8x16384 .f32) : FVec F S8x16384 .f32 :=
  minimumf D (Host.reduceAdd (mulf (diff P (take1 P (spread j))) (diff P (take1 P (spread j))))
    (constant S_ .f32 0x00000000#32) reducesTo_S8x16384x3_S8x16384_d2 h_S_)

/-- The farthest points. -/
def refFar (D : FVec F S8x16384 .f32) : IVec S8 32 :=
  fun j => (Host.argReduce reducer_argmax_f32_i32 D (iotaInDim S8x16384 32 1) (constant S_ .f32 0xFF800000#32)
    (constantI S_ 32 0#32) reducesTo_S8x16384_S8_d1 h_S_ j).2

/-- The column that a trip's point goes to. -/
def column (i : IVec S_ 32) : IVec S1 32 :=
  broadcastInDim S1 ![] bcast_S_S1 (starts (constantI S_ 32 0#32) (constantI S_ 32 2048#32) i)

variable (V : Valuation τ sig (Elt F))

set_option maxHeartbeats 4000000

/-- A trip leaves the points unchanged. -/
theorem trip_pts : trip V main_v3_0 = V main_v3_0 := by
  unfold trip
  after_reads_simp

/-- A trip adds one to the column number. -/
theorem trip_col : trip V main_v3_2 = addi (V main_v3_2) (constantI S_ 32 1#32) := by
  unfold trip
  after_reads_simp
  try rfl

/-- A trip writes the current point's number into its column. -/
theorem trip_idxs : trip V main_v3_3
    = Host.scatter scatter_S8x2048_S1_S8_0_1_1_0 (fun _ b => b) (V main_v3_3) (column (V main_v3_2)) (V main_v3_5) := by
  unfold trip
  after_reads_simp
  try rfl

/-- A trip lowers the distances. -/
theorem trip_dist : trip V main_v3_4 = refDist (V main_v3_0) (V main_v3_5) (V main_v3_4) := by
  unfold trip
  after_reads_simp
  try rfl

/-- A trip finds the farthest point. -/
theorem trip_far : trip V main_v3_5 = refFar (refDist (V main_v3_0) (V main_v3_5) (V main_v3_4)) := by
  unfold trip
  after_reads_simp
  try rfl

/-- A trip leaves the argument unchanged. -/
theorem trip_arg : trip V main_arg0 = V main_arg0 := by
  unfold trip
  after_reads_simp

end Cert.FpsRef
-- ==== Proof.Fps.RefEnd.lean ====
/- What the reference's buffers hold at the loop's entry and at the end. -/
module

public import proofs.«01_k».proof.Proof.Fps.RefTrip

@[expose] public section

set_option maxRecDepth 16384

noncomputable section

namespace Cert.FpsRef

open Idealize.ShloMosaic Idealize.ShloMosaic.TcCoe Idealize.ShloMosaic.Tactic
open Cert.ReferenceIdeal Cert.ReferenceIdeal.Gen
open Idealize.ShloMosaic.StableHlo (after)

variable {F : FTy → Type} [FloatOps F]

/-- The sampled points' numbers, once for each of their coordinates. -/
def spreadAll (j : IVec S8x2048 32) : IVec S8x2048x3 32 :=
  broadcastInDim S8x2048x3 ![0, 1, 2] bcast_S8x2048x1_S8x2048x3_0_1_2
    (broadcastInDim S8x2048x1 ![0, 1] bcast_S8x2048_S8x2048x1_0_1 j)

/-- The start indices of the reading of the sampled points. -/
def startAll (j : IVec S8x2048x3 32) : IVec S8x2048x3x1 32 :=
  shapeCast S8x2048x3x1 (starts (broadcastInDim S8x2048x3 ![] bcast_S_S8x2048x3 (constantI S_ 32 0#32))
    (broadcastInDim S8x2048x3 ![] bcast_S_S8x2048x3 (constantI S_ 32 16384#32)) j) shapeCasts_S8x2048x3_S8x2048x3x1

/-- Where those start indices are in range. -/
def insideAll (i : IVec S8x2048x3x1 32) : IVec S8x2048x3 1 :=
  Host.reduce IntOp.andi
    (andi (cmpi .sge i (broadcastInDim S8x2048x3x1 ![] bcast_S_S8x2048x3x1 (constantI S_ 32 0#32)))
      (cmpi .sle i (broadcastInDim S8x2048x3x1 ![0, 1, 2, 3] bcast_S1x1x1x1_S8x2048x3x1_0_1_2_3
        (broadcastInDim S1x1x1x1 ![3] bcast_S1_S1x1x1x1_3 (constantI S1 32 16383#32)))))
    (constantI S_ 1 1#1) reducesTo_S8x2048x3x1_S8x2048x3_d3 h_S_

/-- The sampled points. -/
def takeAll (P : Vec F S8x16384x3 .f32) (j : IVec S8x2048x3 32) : Vec F S8x2048x3 .f32 :=
  select (insideAll (startAll j))
    (Host.gather gather_S8x16384x3_S8x2048x3x1_S8x2048x3_n_1_02_02_1_3_111 P (startAll j))
    (broadcastInDim S8x2048x3 ![] bcast_S_S8x2048x3 (constant S_ .f32 0x7FC00000#32))

variable (m : (ℓ : Loc nD τ sig) → Buf (Elt F) ℓ) (c : Dev nD)

set_option maxHeartbeats 4000000

/-- The points at the loop's entry are the argument. -/
theorem entry_pts : entry m c main_v3_0 = m ((c.tc : Thread nD τ).loc main_arg0) := by
  unfold entry
  after_reads_simp
  try rfl

/-- The column number starts at 0. -/
theorem entry_col : entry m c main_v3_2 = constantI S_ 32 0#32 := by
  unfold entry
  after_reads_simp
  try rfl

/-- The distances start at infinity. -/
theorem entry_dist : entry m c main_v3_4 = broadcastInDim S8x16384 ![] bcast_S_S8x16384 (constant S_ .f32 0x7F800000#32) := by
  unfold entry
  after_reads_simp
  try rfl

/-- The first point is point 0. -/
theorem entry_far : entry m c main_v3_5 = broadcastInDim S8 ![] bcast_S_S8 (constantI S_ 32 0#32) := by
  unfold entry
  after_reads_simp
  try rfl

/-- The operations before the loop leave the argument unchanged. -/
theorem entry_arg : entry m c main_arg0 = m ((c.tc : Thread nD τ).loc main_arg0) := by
  unfold entry
  after_reads_simp
  try rfl

/-- The first result is the numbers written by the loop. -/
theorem final_idxs : final m c main_v3_3 = round m 2048 c main_v3_3 := by
  unfold final
  after_reads_simp

/-- The argument at the end is what it was after the loop. -/
theorem final_arg : final m c main_arg0 = round m 2048 c main_arg0 := by
  unfold final
  after_reads_simp

/-- The second result is the points of those numbers. -/
theorem final_pts : final m c main_v6 = takeAll (round m 2048 c main_arg0) (spreadAll (round m 2048 c main_v3_3)) := by
  unfold final
  after_reads_simp
  try rfl

/-- No trip changes the argument. -/
theorem round_arg : ∀ k, round m k c main_arg0 = m ((c.tc : Thread nD τ).loc main_arg0)
  | 0 => entry_arg m c
  | k + 1 => by rw [round_succ, trip_arg, round_arg k]

/-- No trip changes the points. -/
theorem round_pts : ∀ k, round m k c main_v3_0 = m ((c.tc : Thread nD τ).loc main_arg0)
  | 0 => entry_pts m c
  | k + 1 => by rw [round_succ, trip_pts, round_pts k]

/-- The column number counts the trips. -/
theorem round_col : ∀ k, round m k c main_v3_2 = constantI S_ 32 (BitVec.ofNat 32 k)
  | 0 => entry_col m c
  | k + 1 => by
    rw [round_succ, trip_col, round_col k]
    funext i
    show BitVec.ofNat 32 k + 1#32 = _
    rw [show (1#32) = BitVec.ofNat 32 1 from rfl, ← BitVec.ofNat_add]
    rfl

/-- The reference's frame: the argument is unchanged and the semaphores are zero. -/
theorem frame (ρ) : θ_run (defs (F := F)) (onTc main) ⟨m, fun _ => 0, ρ⟩ fun r =>
    (∀ c : Dev nD, r.2.mem ((c.tc : Thread nD τ).loc main_arg0) = m ((c.tc : Thread nD τ).loc main_arg0)) ∧
      r.2.sem = fun _ => 0 :=
  (θ_run defs _ _).mono (fun r h => ⟨fun c =>
    (h.1 c main_arg0 (StableHlo.devRef_mem_ucRefs main_arg0 rfl)).trans ((final_arg m c).trans (round_arg m c 2048)), h.2⟩)
    (run m ρ)

end Cert.FpsRef
-- ==== Proof.Fps.RefTake.lean ====
/- Reading points by their numbers: every number in range is read as it stands. -/
module

public import proofs.«01_k».proof.Proof.Fps.RefEnd
public import proofs.«01_k».proof.Proof.Fps.Spec
public import Idealize.ShloMosaic.Lib.WordCmp
public import Idealize.ShloMosaic.Lib.Pointwise.Reshape

@[expose] public section

set_option maxRecDepth 16384

noncomputable section

namespace Cert.FpsRef

open Idealize.ShloMosaic Idealize.ShloMosaic.TcCoe
open Cert.ReferenceIdeal Cert.ReferenceIdeal.Gen
open Cert.Fps (coords)

/-- The dimension numbers of a reading of `N` points of every batch. -/
abbrev alongDims (N : ℕ)
    (h : GatherDims.WF ⟨3, ![8, 16384, 3]⟩ ⟨4, ![8, N, 3, 1]⟩ ⟨3, ![8, N, 3]⟩ [] [1] [0, 2] [1] [0, 2] 3 ![1, 1, 1]) :
    GatherDims ⟨3, ![8, 16384, 3]⟩ ⟨4, ![8, N, 3, 1]⟩ ⟨3, ![8, N, 3]⟩ where
  offsetDims := []
  collapsedSliceDims := [1]
  operandBatchingDims := [0, 2]
  startIndicesBatchingDims := [0, 2]
  startIndexMap := [1]
  indexVectorDim := 3
  sliceSizes := ![1, 1, 1]
  wf := h

/-- A small number is itself read as signed. -/
theorem toInt_word (p : ℕ) (hp : p < 16384) : (BitVec.ofNat 32 p).toInt = p :=
  WordCmp.toInt_ofNat_of_lt (by norm_num; omega)

/-- Such a reading takes the point whose number the start indices hold. -/
theorem along_at {α : Type} {N : ℕ} (h) (x : (⟨3, ![8, 16384, 3]⟩ : Shape).Idx → α)
    (idx : IVec ⟨4, ![8, N, 3, 1]⟩ 32) (b : Fin 8) (n : Fin N) (a : Fin 3) (p : ℕ) (hp : p < 16384)
    (e : idx (ValueIdx.ix4 b n a 0) = BitVec.ofNat 32 p) :
    Host.gather (alongDims N h) x idx (ValueIdx.ix3 b n a) = x (ValueIdx.ix3 b (Fin.ofNat 16384 p) a) := by
  refine congrArg x (funext fun d => Fin.ext ?_)
  show (alongDims N h).start (ValueIdx.ix3 b n a) idx d + (alongDims N h).batchCoord (ValueIdx.ix3 b n a) d
    + (alongDims N h).offCoord (ValueIdx.ix3 b n a) d = _
  have hnot : ∀ d : Fin 3, ¬ (d ∉ ([1] : List (Fin 3)) ∧ d ∉ ([0, 2] : List (Fin 3))) := by decide
  have hoff : (alongDims N h).offCoord (ValueIdx.ix3 b n a) d = 0 :=
    (alongDims N h).offCoord_eq_zero _ d (fun c => hnot d (((alongDims N h).mem_sKept d).1 c))
  rw [hoff, Nat.add_zero]
  have hs : (alongDims N h).start (ValueIdx.ix3 b n a) idx 1 = p := by
    unfold GatherDims.start
    rw [dif_pos (show (1 : Fin 3) ∈ ([1] : List (Fin 3)) by decide)]
    have hi : (alongDims N h).siIdx (ValueIdx.ix3 b n a) ⟨([1] : List (Fin 3)).idxOf 1, show ([1] : List (Fin 3)).idxOf 1 < 1 by decide⟩
        = ValueIdx.ix4 b n a 0 := by
      funext c
      fin_cases c <;> rfl
    refine (congrArg (fun w : BitVec 32 => min w.toInt.toNat (16384 - 1)) ((congrArg idx hi).trans e)).trans ?_
    show min (BitVec.ofNat 32 p).toInt.toNat (16384 - 1) = p
    rw [toInt_word p hp]
    simp; omega
  fin_cases d
  · exact (congrArg₂ (· + ·) ((alongDims N h).start_batching _ idx 0 (show (0 : Fin 3) ∈ ([0, 2] : List (Fin 3)) by decide)) (rfl : _ = b.val)).trans (Nat.zero_add _)
  · exact (congrArg₂ (· + ·) hs ((alongDims N h).batchCoord_eq_zero _ 1 (show (1 : Fin 3) ∉ ([0, 2] : List (Fin 3)) by decide))).trans
      (Nat.mod_eq_of_lt hp).symm
  · exact (congrArg₂ (· + ·) ((alongDims N h).start_batching _ idx 2 (show (2 : Fin 3) ∈ ([0, 2] : List (Fin 3)) by decide)) (rfl : _ = a.val)).trans (Nat.zero_add _)

/-- A number in range is its own start index. -/
theorem starts_at {s : Shape} (z n j : IVec s 32) (i : s.Idx) (p : ℕ) (hp : p < 16384)
    (hz : z i = 0#32) (hj : j i = BitVec.ofNat 32 p) : starts z n j i = BitVec.ofNat 32 p := by
  have hc : ¬ IntOp.cmpi .slt (j i) (z i) = 1 := by
    rw [hz, hj]
    intro c
    have := (WordCmp.cmpi_slt_ofNat_eq_one_iff (w := 32) (a := p) (b := 0) (by norm_num; omega) (by norm_num)).1 c
    omega
  show (if IntOp.cmpi .slt (j i) (z i) = 1 then _ else j i) = _
  rw [if_neg hc, hj]

/-- It passes the test of being in range. -/
theorem in_range (p : ℕ) (hp : p < 16384) :
    IntOp.andi (IntOp.cmpi .sge (BitVec.ofNat 32 p) 0#32) (IntOp.cmpi .sle (BitVec.ofNat 32 p) 16383#32) = 1#1 := by
  have h1 : IntOp.cmpi .sge (BitVec.ofNat 32 p) 0#32 = 1#1 :=
    (WordCmp.cmpi_sge_ofNat_eq_one_iff (w := 32) (a := p) (b := 0) (by norm_num; omega) (by norm_num)).2 (by omega)
  have h2 : IntOp.cmpi .sle (BitVec.ofNat 32 p) 16383#32 = 1#1 :=
    (WordCmp.cmpi_sle_ofNat_eq_one_iff (w := 32) (a := p) (b := 16383) (by norm_num; omega) (by norm_num)).2 (by omega)
  rw [h1, h2]
  decide

/-- The conjunction over the last axis, of one element, is that element. -/
theorem all_last {N : ℕ} (h' : (⟨4, ![8, N, 3, 1]⟩ : Shape).ReducesTo [3] ⟨3, ![8, N, 3]⟩)
    (h : (⟨4, ![8, N, 3, 1]⟩ : Shape).Reduces [3] ⟨3, ![8, N, 3]⟩) (x : IVec ⟨4, ![8, N, 3, 1]⟩ 1)
    (b : Fin 8) (n : Fin N) (a : Fin 3) (hx : x (ValueIdx.ix4 b n a 0) = 1#1) :
    Host.reduce IntOp.andi x (constantI S_ 1 1#1) h' h_S_ (ValueIdx.ix3 b n a) = 1#1 := by
  refine (Host.reduce_eq_fold_single IntOp.andi x (constantI S_ 1 1#1) h' h h_S_ (ValueIdx.ix3 b n a)).trans ?_
  have hl : h.lift (ValueIdx.ix3 b n a) (0 : Fin 1) = ValueIdx.ix4 b n a 0 := by
    funext c
    fin_cases c <;> rfl
  have hf : ∀ g : Fin 1 → BitVec 1, (Finset.univ : Finset (Fin 1)).fold IntOp.andi (1#1) g = IntOp.andi (g 0) 1#1 := by
    intro g
    rw [Finset.univ_unique, Finset.fold_singleton]
    rfl
  refine (hf _).trans ((congrArg (fun w => IntOp.andi w 1#1) ((congrArg x hl).trans hx)).trans ?_)
  decide

/-- A vector with a last axis of one element added, at an index. -/
theorem cast_last {N : ℕ} (j : IVec ⟨3, ![8, N, 3]⟩ 32)
    (h : (⟨3, ![8, N, 3]⟩ : Shape).ShapeCasts ⟨4, ![8, N, 3, 1]⟩) (b : Fin 8) (n : Fin N) (a : Fin 3) :
    shapeCast (⟨4, ![8, N, 3, 1]⟩ : Shape) j h (ValueIdx.ix4 b n a 0) = j (ValueIdx.ix3 b n a) := by
  refine shapeCast_apply j h _ (ValueIdx.ix3 b n a) ?_
  rw [rowMajor_val3 _ (N * 3) 3 rfl rfl, rowMajor_val4 _ (N * (3 * 1)) (3 * 1) 1 rfl rfl rfl]
  show b.val * (N * 3) + n.val * 3 + a.val = b.val * (N * (3 * 1)) + n.val * (3 * 1) + a.val * 1 + 0
  simp

/-- A selection where its mask is set. -/
theorem select_on {s : Shape} {α : Type} {m : IVec s 1} (x y : s.Idx → α) (i : s.Idx) (h : m i = 1#1) :
    select m x y i = x i := if_pos h

/-- One point of every batch, at a coordinate. -/
theorem take1_at (P : Vec Ideal S8x16384x3 .f32) (j : IVec S8x1x3 32) (b : Fin 8) (a : Fin 3) (p : ℕ) (hp : p < 16384)
    (hj : j (ValueIdx.ix3 b 0 a) = BitVec.ofNat 32 p) : take1 P j (ValueIdx.ix3 b 0 a) = coords P b p a := by
  have hs : start1 j (ValueIdx.ix4 b 0 a 0) = BitVec.ofNat 32 p :=
    (cast_last _ shapeCasts_S8x1x3_S8x1x3x1 b 0 a).trans (starts_at _ _ j _ p hp rfl hj)
  have hm : inside1 (start1 j) (ValueIdx.ix3 b 0 a) = 1#1 :=
    all_last reducesTo_S8x1x3x1_S8x1x3_d3 (by decide) _ b 0 a (by
      show IntOp.andi (IntOp.cmpi .sge (start1 j (ValueIdx.ix4 b 0 a 0)) 0#32)
        (IntOp.cmpi .sle (start1 j (ValueIdx.ix4 b 0 a 0)) 16383#32) = 1#1
      rw [hs]
      exact in_range p hp)
  exact (select_on _ _ _ hm).trans (along_at _ P _ b 0 a p hp hs)

/-- The sampled points, at a coordinate. -/
theorem takeAll_at (P : Vec Ideal S8x16384x3 .f32) (j : IVec S8x2048x3 32) (b : Fin 8) (n : Fin 2048) (a : Fin 3)
    (p : ℕ) (hp : p < 16384) (hj : j (ValueIdx.ix3 b n a) = BitVec.ofNat 32 p) :
    takeAll P j (ValueIdx.ix3 b n a) = coords P b p a := by
  have hs : startAll j (ValueIdx.ix4 b n a 0) = BitVec.ofNat 32 p :=
    (cast_last _ shapeCasts_S8x2048x3_S8x2048x3x1 b n a).trans (starts_at _ _ j _ p hp rfl hj)
  have hm : insideAll (startAll j) (ValueIdx.ix3 b n a) = 1#1 :=
    all_last reducesTo_S8x2048x3x1_S8x2048x3_d3 (by decide) _ b n a (by
      show IntOp.andi (IntOp.cmpi .sge (startAll j (ValueIdx.ix4 b n a 0)) 0#32)
        (IntOp.cmpi .sle (startAll j (ValueIdx.ix4 b n a 0)) 16383#32) = 1#1
      rw [hs]
      exact in_range p hp)
  exact (select_on _ _ _ hm).trans (along_at _ P _ b n a p hp hs)

end Cert.FpsRef
-- ==== Proof.Fps.RefFar.lean ====
/- The reference's farthest points: the first place of a row's largest distance. -/
module

public import proofs.«01_k».proof.Proof.Fps.RefTrip
public import proofs.«01_k».proof.Proof.Fps.Spec
public import Idealize.ShloMosaic.Lib.WordCmp
public import Idealize.ShloMosaic.Lib.Pointwise.Reshape

@[expose] public section

noncomputable section

namespace Cert.FpsRef

open Idealize.ShloMosaic Idealize.ShloMosaic.TcCoe
open Cert.ReferenceIdeal Cert.ReferenceIdeal.Gen
open Cert.Fps (Best far far_eq)

/-- The reducer on two values and their places: the second's where its value is larger, or the values are equal and its
    place is not after the first's. -/
theorem argmax_pair (u v : EReal) (i j : BitVec 32) :
    reducer_argmax_f32_i32 (F := Ideal) (u, i) (v, j)
      = (max u v, if v < u ∨ (u = v ∧ IntOp.cmpi .slt i j = 1#1) then i else j) := by
  show (Scalar.select (IntOp.ori (Ideal.cmp .ogt u v) (Ideal.cmp .une u u)) u v,
    Scalar.select (IntOp.ori (IntOp.ori (Ideal.cmp .ogt u v) (Ideal.cmp .une u u))
      (IntOp.andi (Ideal.cmp .oeq u v) (IntOp.cmpi .slt i j))) i j) = _
  have hne : Ideal.cmp .une u u = 0#1 := by simp [Ideal.cmp]
  have hor : IntOp.ori (Ideal.cmp .ogt u v) 0#1 = Ideal.cmp .ogt u v := by simp [IntOp.ori]
  rw [hne, hor]
  rcases lt_trichotomy u v with h | h | h
  · have h1 : Ideal.cmp .ogt u v = 0#1 := by simp [Ideal.cmp, h.not_gt]
    have h2 : Ideal.cmp .oeq u v = 0#1 := by simp [Ideal.cmp, h.ne]
    rw [h1, h2, if_neg (by rintro (c | c); exacts [absurd c h.not_gt, h.ne c.1]), max_eq_right h.le]
    simp [IntOp.ori, IntOp.andi, Scalar.select]
  · subst h
    have h1 : Ideal.cmp .ogt u u = 0#1 := by simp [Ideal.cmp]
    have h2 : Ideal.cmp .oeq u u = 1#1 := by simp [Ideal.cmp]
    rw [h1, h2, max_self]
    rcases WordCmp.cmpi_slt_eq i j ▸ (by
      by_cases c : i.toInt < j.toInt <;> simp [c] :
        BitVec.ofBool (decide (i.toInt < j.toInt)) = 1#1 ∨ BitVec.ofBool (decide (i.toInt < j.toInt)) = 0#1) with c | c
    · rw [c]; simp [IntOp.ori, IntOp.andi, Scalar.select]
    · rw [c]; simp [IntOp.ori, IntOp.andi, Scalar.select]
  · have h1 : Ideal.cmp .ogt u v = 1#1 := by simp [Ideal.cmp, h]
    have h3 : ∀ w : BitVec 1, IntOp.ori 1#1 w = 1#1 := by decide
    rw [h1, h3, if_pos (Or.inl h), max_eq_left h.le]
    rfl

/-- On a later place the reducer takes it where its value is strictly larger. -/
theorem argmax_step (f : ℕ → EReal) (k n : ℕ) (hk : k < n) (hn : n < 16384) :
    reducer_argmax_f32_i32 (F := Ideal) (f k, BitVec.ofNat 32 k) (f n, BitVec.ofNat 32 n)
      = if f k < f n then (f n, BitVec.ofNat 32 n) else (f k, BitVec.ofNat 32 k) := by
  rw [argmax_pair]
  have hs : IntOp.cmpi .slt (BitVec.ofNat 32 k) (BitVec.ofNat 32 n) = 1#1 :=
    (WordCmp.cmpi_slt_ofNat_eq_one_iff (w := 32) (by norm_num; omega) (by norm_num; omega)).2 hk
  by_cases h : f k < f n
  · rw [if_pos h, max_eq_right h.le, if_neg (by rintro (c | c); exacts [absurd c h.not_gt, h.ne c.1])]
  · rw [if_neg h, max_eq_left (not_lt.1 h), if_pos]
    rcases lt_or_eq_of_le (not_lt.1 h) with c | c
    · exact Or.inl c
    · exact Or.inr ⟨c.symm, hs⟩

/-- On the first place the reducer takes it, whatever its value. -/
theorem argmax_first (v : EReal) :
    reducer_argmax_f32_i32 (F := Ideal) (⊥, 0#32) (v, 0#32) = (v, 0#32) := by
  rw [argmax_pair, max_eq_right bot_le, ite_self]

/-- The reducer over the first places of a row. -/
theorem foldl_range (f : ℕ → EReal) : ∀ n, n < 16384 → ∃ k, Best f 0 (n + 1) k ∧
    ((List.range (n + 1)).map fun i => (f i, BitVec.ofNat 32 i)).foldl (reducer_argmax_f32_i32 (F := Ideal)) (⊥, 0#32)
      = (f k, BitVec.ofNat 32 k)
  | 0, _ => ⟨0, Best.one f 0, argmax_first (f 0)⟩
  | n + 1, h => by
    obtain ⟨k, hk, e⟩ := foldl_range f n (by omega)
    have hstep : ((List.range (n + 1 + 1)).map fun i => (f i, BitVec.ofNat 32 i)).foldl
        (reducer_argmax_f32_i32 (F := Ideal)) (⊥, 0#32)
        = if f k < f (n + 1) then (f (n + 1), BitVec.ofNat 32 (n + 1)) else (f k, BitVec.ofNat 32 k) := by
      rw [List.range_succ, List.map_append, List.foldl_append, e]
      exact argmax_step f k (n + 1) hk.2.1 h
    by_cases c : f k < f (n + 1)
    · exact ⟨n + 1, hk.right (Best.one f (n + 1)) c, by rw [hstep, if_pos c]⟩
    · exact ⟨k, hk.left (Best.one f (n + 1)) c, by rw [hstep, if_neg c]⟩

/-- A list of numbers in increasing order is told by its members. -/
theorem sorted_ext {l l' : List ℕ} (h : l.Pairwise (· < ·)) (h' : l'.Pairwise (· < ·)) (e : ∀ n, n ∈ l ↔ n ∈ l') : l = l' :=
  ((List.perm_ext_iff_of_nodup (h.imp fun c => c.ne) (h'.imp fun c => c.ne)).2 e).eq_of_pairwise
    (fun a b _ _ c c' => absurd c c'.not_gt) h h'

/-- Without its place in the row an index is the row's number. -/
theorem drop_row (i : S8x16384.Idx) : (reducesTo_S8x16384_S8_d1).drop i = ValueIdx.ix1 (i 0) := by
  funext a
  fin_cases a
  rfl

/-- The places of a row, in row-major order. -/
theorem row_positions (b : Fin 8) :
    ((List.finRange S8x16384.numel).filter fun n =>
        (reducesTo_S8x16384_S8_d1).drop (S8x16384.rowMajor.symm n) = ValueIdx.ix1 b).map Fin.val
      = (List.range 16384).map (b.val * 16384 + ·) := by
  refine sorted_ext ?_ ?_ ?_
  · exact List.pairwise_map.2 ((List.pairwise_lt_finRange _).filter _)
  · exact List.pairwise_map.2 (List.pairwise_lt_range.imp fun c => by omega)
  · intro n
    rw [List.mem_map, List.mem_map]
    constructor
    · rintro ⟨i, hi, rfl⟩
      have hb := (of_decide_eq_true (List.mem_filter.1 hi).2 : _ = _)
      rw [drop_row] at hb
      have h0 : (S8x16384.rowMajor.symm i) 0 = b := congrFun hb 0
      have hv := rowMajor_val2 (S8x16384.rowMajor.symm i) 16384 rfl
      rw [Equiv.apply_symm_apply, h0] at hv
      exact ⟨_, List.mem_range.2 ((S8x16384.rowMajor.symm i) 1).isLt, hv.symm⟩
    · rintro ⟨k, hk, rfl⟩
      refine ⟨S8x16384.rowMajor (ValueIdx.ix2 b ⟨k, List.mem_range.1 hk⟩), List.mem_filter.2 ⟨List.mem_finRange _, ?_⟩, ?_⟩
      · refine decide_eq_true ?_
        rw [Equiv.symm_apply_apply, drop_row]
        rfl
      · exact rowMajor_val2 _ 16384 rfl

/-- The value and the place at a position of a row. -/
theorem at_position (D : FVec Ideal S8x16384 .f32) (b : Fin 8) (i : Fin S8x16384.numel) (k : ℕ) (hk : k < 16384)
    (e : i.val = b.val * 16384 + k) :
    (D (S8x16384.rowMajor.symm i), iotaInDim S8x16384 32 1 (S8x16384.rowMajor.symm i))
      = (D (ValueIdx.ix2 b (Fin.ofNat 16384 k)), BitVec.ofNat 32 k) := by
  have hi : S8x16384.rowMajor.symm i = ValueIdx.ix2 b (Fin.ofNat 16384 k) := by
    rw [Equiv.symm_apply_eq]
    refine Fin.ext (e.trans ?_)
    refine Eq.trans ?_ (rowMajor_val2 _ 16384 rfl).symm
    show b.val * 16384 + k = b.val * 16384 + k % 16384
    rw [Nat.mod_eq_of_lt hk]
  rw [hi]
  refine Prod.ext rfl ?_
  show BitVec.ofNat 32 (k % 16384) = BitVec.ofNat 32 k
  rw [Nat.mod_eq_of_lt hk]

/-- The pairs that the reducer goes through for a row. -/
theorem row_pairs (D : FVec Ideal S8x16384 .f32) (b : Fin 8) :
    Host.argReduceFiber D (iotaInDim S8x16384 32 1) reducesTo_S8x16384_S8_d1 (ValueIdx.ix1 b)
      = (List.range 16384).map fun k => (D (ValueIdx.ix2 b (Fin.ofNat 16384 k)), BitVec.ofNat 32 k) := by
  have hg : ∀ l : List (Fin S8x16384.numel), ∀ l' : List ℕ, (∀ k ∈ l', k < 16384) →
      l.map Fin.val = l'.map (b.val * 16384 + ·) →
      l.map (fun n => (D (S8x16384.rowMajor.symm n), iotaInDim S8x16384 32 1 (S8x16384.rowMajor.symm n)))
        = l'.map fun k => (D (ValueIdx.ix2 b (Fin.ofNat 16384 k)), BitVec.ofNat 32 k) := by
    intro l
    induction l with
    | nil =>
      intro l' _ e
      cases l' with
      | nil => rfl
      | cons k l' => exact absurd e (by simp)
    | cons i l ih =>
      intro l' hl e
      cases l' with
      | nil => exact absurd e (by simp)
      | cons k l' =>
        obtain ⟨e1, e2⟩ := List.cons.inj e
        exact List.cons_eq_cons.2 ⟨at_position D b i k (hl k List.mem_cons_self) e1,
          ih l' (fun k hk => hl k (List.mem_cons_of_mem _ hk)) e2⟩
  exact hg _ _ (fun k hk => List.mem_range.1 hk) (row_positions b)

/-- The farthest point of a batch is the first place of its largest distance. -/
theorem refFar_at (D : FVec Ideal S8x16384 .f32) (b : Fin 8) :
    refFar D (ValueIdx.ix1 b) = BitVec.ofNat 32 (far fun n => D (ValueIdx.ix2 b (Fin.ofNat 16384 n))) := by
  obtain ⟨k, hk, e⟩ := foldl_range (fun n => D (ValueIdx.ix2 b (Fin.ofNat 16384 n))) 16383 (by omega)
  have hbot : Ideal.ofBits .f32 0xFF800000#32 = ⊥ := by simp [Ideal.ofBits, Ideal.ieee]
  have h2 := Host.reduce2_eq_foldl_fiber (reducer_argmax_f32_i32 (F := Ideal)) D (iotaInDim S8x16384 32 1)
    (constant S_ .f32 0xFF800000#32) (constantI S_ 32 0#32) reducesTo_S8x16384_S8_d1 h_S_ (ValueIdx.ix1 b)
  rw [row_pairs] at h2
  have h3 := (congrFun (Ideal.argReduce_eq_reduce2 (reducer_argmax_f32_i32 (F := Ideal)) D (iotaInDim S8x16384 32 1)
    (constant S_ .f32 0xFF800000#32) (constantI S_ 32 0#32) reducesTo_S8x16384_S8_d1 h_S_) (ValueIdx.ix1 b)).trans h2
  have h4 : ((constant S_ .f32 0xFF800000#32 : FVec Ideal S_ .f32) (Shape.Idx.first h_S_), constantI S_ 32 0#32 (Shape.Idx.first h_S_))
      = ((⊥ : EReal), 0#32) := Prod.ext hbot rfl
  rw [h4] at h3
  rw [← far_eq hk]
  exact congrArg Prod.snd (h3.trans e)

end Cert.FpsRef
-- ==== Proof.Fps.RefSpec.lean ====
/- What the reference samples is farthest point sampling. -/
module

public import proofs.«01_k».proof.Proof.Fps.RefTake
public import proofs.«01_k».proof.Proof.Fps.RefFar
public import Idealize.ShloMosaic.Lib.Routing.OpsOne

@[expose] public section

set_option maxRecDepth 16384

noncomputable section

namespace Cert.FpsRef

open Idealize.ShloMosaic Idealize.ShloMosaic.TcCoe
open Cert.ReferenceIdeal Cert.ReferenceIdeal.Gen
open Cert.Fps (coords far sample sample_lt sampledIdx sampledPts)

/-- The points' differences, at a coordinate. -/
theorem diff_at (P : Vec Ideal S8x16384x3 .f32) (q : Vec Ideal S8x1x3 .f32) (b : Fin 8) (n : ℕ) (a : Fin 3) :
    diff P q (ValueIdx.ix3 b (Fin.ofNat 16384 n) a) = coords P b n a - q (ValueIdx.ix3 b 0 a) := by
  refine congrArg (fun v : EReal => coords P b n a - v) (congrArg q ?_)
  funext d
  fin_cases d <;> rfl

/-- The new distances, from the point numbered `p`. -/
theorem refDist_at (P : Vec Ideal S8x16384x3 .f32) (j : IVec S8 32) (D : Vec Ideal S8x16384 .f32) (b : Fin 8) (n : ℕ)
    (p : ℕ) (hp : p < 16384) (hj : j (ValueIdx.ix1 b) = BitVec.ofNat 32 p) :
    refDist P j D (ValueIdx.ix2 b (Fin.ofNat 16384 n))
      = min (D (ValueIdx.ix2 b (Fin.ofNat 16384 n)))
          (∑ a : Fin 3, (coords P b n a - coords P b p a) * (coords P b n a - coords P b p a)) := by
  have ht : ∀ a : Fin 3, diff P (take1 P (spread j)) (ValueIdx.ix3 b (Fin.ofNat 16384 n) a)
      = coords P b n a - coords P b p a := fun a => by
    rw [diff_at, take1_at P (spread j) b a p hp]
    refine Eq.trans (congrArg j ?_) hj
    funext d
    fin_cases d
    rfl
  have hr : S8x16384x3.Reduces [2] S8x16384 := by decide
  have hl : ∀ a : Fin 3, hr.lift (ValueIdx.ix2 b (Fin.ofNat 16384 n)) a = ValueIdx.ix3 b (Fin.ofNat 16384 n) a := fun a => by
    funext d
    fin_cases d <;> rfl
  have hz : Ideal.ofBits .f32 0#32 = 0 := by simp [Ideal.ofBits, Ideal.ieee]
  refine congrArg (min (D (ValueIdx.ix2 b (Fin.ofNat 16384 n)))) ?_
  refine (Ideal.hostReduceAdd_single reducesTo_S8x16384x3_S8x16384_d2 hr _ _ _).trans ?_
  refine (congrArg₂ (· + ·) hz (Finset.sum_congr rfl fun a _ => ?_)).trans (zero_add _)
  refine (congrArg _ (hl a)).trans ?_
  exact congrArg₂ (· * ·) (ht a) (ht a)

/-- The column that a trip's point goes to is the trip's number. -/
theorem column_at (k : ℕ) (hk : k < 2048) : (column (constantI S_ 32 (BitVec.ofNat 32 k)) (ValueIdx.ix1 0)).toInt = k := by
  have h : column (constantI S_ 32 (BitVec.ofNat 32 k)) (ValueIdx.ix1 0) = BitVec.ofNat 32 k :=
    starts_at (constantI S_ 32 0#32) (constantI S_ 32 2048#32) (constantI S_ 32 (BitVec.ofNat 32 k)) _ k (by omega) rfl rfl
  rw [h]
  exact toInt_word k (by omega)

variable (m : (ℓ : Loc nD τ sig) → Buf (Elt Ideal) ℓ) (c : Dev nD)

/-- Before trip `k` the reference holds the sampling's distances and current point, and its first `k` points. -/
theorem round_spec : ∀ k : ℕ, k ≤ 2048 →
    (∀ (b : Fin 8) (n : ℕ), (round m k c main_v3_4 : Vec Ideal S8x16384 .f32) (ValueIdx.ix2 b (Fin.ofNat 16384 n))
      = (sample (coords (m ((c.tc : Thread nD τ).loc main_arg0)) b) k).1 n) ∧
    (∀ b : Fin 8, (round m k c main_v3_5 : IVec S8 32) (ValueIdx.ix1 b)
      = BitVec.ofNat 32 (sample (coords (m ((c.tc : Thread nD τ).loc main_arg0)) b) k).2) ∧
    ∀ (b : Fin 8) (e : Fin 2048), e.val < k → (round m k c main_v3_3 : IVec S8x2048 32) (ValueIdx.ix2 b e)
      = BitVec.ofNat 32 (sample (coords (m ((c.tc : Thread nD τ).loc main_arg0)) b) e.val).2
  | 0, _ => by
    refine ⟨fun b n => ?_, fun b => ?_, fun b e h => absurd h (Nat.not_lt_zero _)⟩
    · rw [round_zero, entry_dist]
      show Ideal.ofBits .f32 0x7F800000#32 = ⊤
      simp [Ideal.ofBits, Ideal.ieee]
    · rw [round_zero, entry_far]
      rfl
  | k + 1, hk => by
    obtain ⟨hD, hj, hs⟩ := round_spec k (by omega)
    have hD' : ∀ (b : Fin 8) (n : ℕ), refDist (round m k c main_v3_0) (round m k c main_v3_5) (round m k c main_v3_4)
        (ValueIdx.ix2 b (Fin.ofNat 16384 n)) = (sample (coords (m ((c.tc : Thread nD τ).loc main_arg0)) b) (k + 1)).1 n := by
      intro b n
      rw [refDist_at _ _ _ b n _ (sample_lt _ k) (hj b), hD b n, round_pts]
      rfl
    refine ⟨fun b n => ?_, fun b => ?_, fun b e he => ?_⟩
    · rw [round_succ, trip_dist]
      exact hD' b n
    · rw [round_succ, trip_far, refFar_at]
      exact congrArg (fun f => BitVec.ofNat 32 (far f)) (funext (hD' b))
    · rw [round_succ, trip_idxs, round_col]
      refine (Routing.scatter_col_set (R := 8) (C := 2048) _ (round m k c main_v3_3) _ (round m k c main_v3_5)
        ⟨k, by omega⟩ (column_at k (by omega)) b e).trans ?_
      by_cases h : e = ⟨k, by omega⟩
      · rw [if_pos h, h]
        exact hj b
      · rw [if_neg h]
        exact hs b e (lt_of_le_of_ne (Nat.le_of_lt_succ he) fun c => h (Fin.ext c))

/-- At the end the reference's first result holds the numbers of the points sampled. -/
theorem final_idxs_spec : (final m c main_v3_3 : IVec S8x2048 32) = sampledIdx (m ((c.tc : Thread nD τ).loc main_arg0)) := by
  rw [final_idxs]
  funext i
  refine Eq.trans (congrArg _ ?_) ((round_spec m c 2048 le_rfl).2.2 (i 0) (i 1) (i 1).isLt)
  funext d
  fin_cases d <;> rfl

/-- The points sampled, from their numbers. -/
theorem takeAll_spec (P : Vec Ideal S8x16384x3 .f32) (J : IVec S8x2048 32)
    (h : ∀ (b : Fin 8) (e : Fin 2048), J (ValueIdx.ix2 b e) = BitVec.ofNat 32 (sample (coords P b) e.val).2)
    (b : Fin 8) (e : Fin 2048) (a : Fin 3) :
    takeAll P (spreadAll J) (ValueIdx.ix3 b e a) = sampledPts P (ValueIdx.ix3 b e a) := by
  have hJ : spreadAll J (ValueIdx.ix3 b e a) = J (ValueIdx.ix2 b e) := by
    refine congrArg J ?_
    funext d
    fin_cases d <;> rfl
  exact takeAll_at P (spreadAll J) b e a _ (sample_lt _ e.val) (hJ.trans (h b e))

/-- An index of the points is its three coordinates. -/
theorem eq_ix3 (i : S8x2048x3.Idx) : i = ValueIdx.ix3 (i 0) (i 1) (i 2) := by
  funext d
  fin_cases d <;> rfl

/-- Its second result holds their coordinates. -/
theorem final_pts_spec : (final m c main_v6 : Vec Ideal S8x2048x3 .f32) = sampledPts (m ((c.tc : Thread nD τ).loc main_arg0)) := by
  refine (final_pts m c).trans ?_
  rw [round_arg]
  funext i
  rw [eq_ix3 i]
  exact takeAll_spec _ _ (fun b e => (round_spec m c 2048 le_rfl).2.2 b e e.isLt) _ _ _

/-- The reference's runs hold the points sampled. -/
theorem run_spec (ρ : Dev nD → PrngReg) : θ_run defs (onTc main) ⟨m, fun _ => 0, ρ⟩ fun r => ∀ c : Dev nD,
    r.2.mem ((c.tc : Thread nD τ).loc main_v3_3) = sampledIdx (m ((c.tc : Thread nD τ).loc main_arg0)) ∧
    r.2.mem ((c.tc : Thread nD τ).loc main_v6) = sampledPts (m ((c.tc : Thread nD τ).loc main_arg0)) ∧
    r.2.mem ((c.tc : Thread nD τ).loc main_arg0) = m ((c.tc : Thread nD τ).loc main_arg0) :=
  (θ_run defs _ _).mono (fun r h c =>
    ⟨(h.1 c _ (StableHlo.devRef_mem_ucRefs main_v3_3 rfl)).trans (final_idxs_spec m c),
      (h.1 c _ (StableHlo.devRef_mem_ucRefs main_v6 rfl)).trans (final_pts_spec m c),
      (h.1 c _ (StableHlo.devRef_mem_ucRefs main_arg0 rfl)).trans ((final_arg m c).trans (round_arg m c 2048))⟩) (run m ρ)

end Cert.FpsRef
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Fps.KernelSpec
public import proofs.«01_k».proof.Proof.Fps.Same
public import proofs.«01_k».proof.Proof.Fps.RefSpec
public import Idealize.ShloMosaic.Adequacy
public import Idealize.ShloMosaic.Init

@[expose] public section

noncomputable section

namespace Cert.Proof

open Idealize.ShloMosaic Idealize.SL.Sem Cert.Kernel

/-- Over the extended reals the kernel and the reference sample the same points: the numbers and the coordinates of farthest
    point sampling (`Cert.Fps.sampledIdx`, `Cert.Fps.sampledPts`). -/
theorem algebraic : Cert.algebraic_KernelIdeal_ReferenceIdeal (hKernelIdeal := Cert.KernelIdeal.Gen.facts)
    (hReferenceIdeal := Cert.ReferenceIdeal.Gen.facts) := fun m g m' g' _ h =>
  ⟨fun c => Cert.Fps.sampledIdx (m (c.tc.loc Cert.KernelIdeal.main_arg0)),
    fun c => Cert.Fps.sampledPts (m (c.tc.loc Cert.KernelIdeal.main_arg0)),
    Cert.Fps.run_spec m g,
    (θ_run Cert.ReferenceIdeal.defs _ _).mono (fun r hr c =>
      ⟨(hr c).1.trans (congrArg Cert.Fps.sampledIdx (h c)), (hr c).2.1.trans (congrArg Cert.Fps.sampledPts (h c)),
        (hr c).2.2⟩) (Cert.FpsRef.run_spec m' g')⟩

/-- The kernel and the reference run, leave their arguments and every counter as they were, and compute the same. -/
theorem claim : Cert.Claim := ⟨Cert.Kernel.Gen.facts, Cert.KernelIdeal.Gen.facts, Cert.ReferenceIdeal.Gen.facts,
  fun m ρ _ => Cert.Fps.frame_printed m ρ,
  fun m ρ _ => Cert.Fps.frame m ρ,
  fun m ρ _ => Cert.FpsRef.frame m ρ,
  trivial,
  algebraic⟩

end Cert.Proof

end
